-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_tame [hPre_tame : Cert.Pre_tame.Facts] (m : (ℓ : Loc Cert.KernelIdeal.nD Cert.KernelIdeal.τ Cert.KernelIdeal.sig) → Buf (Elt Ideal) ℓ) : Prop :=
  ∀ c : Dev Cert.KernelIdeal.nD,
    (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tame [hPre_tame : Cert.Pre_tame.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_tame [hKernelIdeal : Cert.KernelIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_tame m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_tame [hReferenceIdeal : Cert.ReferenceIdeal.Facts] [hPre_tame : Cert.Pre_tame.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tame m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  IdealRules.named_const.Statement Cert.KernelIdeal.κ "log2e" .f32 0x3FB8AA3B#32 (((Real.log 2)⁻¹ : ℝ) : EReal)

def algebraic_KernelIdeal_ReferenceIdeal_pre_tame [hKernelIdeal : Cert.KernelIdeal.Facts] [hReferenceIdeal : Cert.ReferenceIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_tame m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v83) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_tame : Cert.Pre_tame.Facts),
    quiescent_Kernel (hKernel := hKernel)
    ∧ quiescent_KernelIdeal (hKernelIdeal := hKernelIdeal)
    ∧ quiescent_KernelIdeal_pre_tame (hKernelIdeal := hKernelIdeal) (hPre_tame := hPre_tame)
    ∧ quiescent_ReferenceIdeal (hReferenceIdeal := hReferenceIdeal)
    ∧ quiescent_ReferenceIdeal_pre_tame (hReferenceIdeal := hReferenceIdeal) (hPre_tame := hPre_tame)
    ∧ preserves_Kernel_KernelIdeal
    ∧ algebraic_KernelIdeal_ReferenceIdeal_pre_tame (hKernelIdeal := hKernelIdeal) (hReferenceIdeal := hReferenceIdeal) (hPre_tame := hPre_tame)
-- ==== Pre_tame.lean ====
abbrev S2x4096x1024 : Shape := ⟨3, ![2, 4096, 1024]⟩
abbrev S4384x1024 : Shape := ⟨2, ![4384, 1024]⟩
abbrev S2304x4 : Shape := ⟨2, ![2304, 4]⟩
abbrev S2304 : Shape := ⟨1, ![2304]⟩
abbrev S32 : Shape := ⟨1, ![32]⟩
abbrev S2048 : Shape := ⟨1, ![2048]⟩
abbrev S1024x2048 : Shape := ⟨2, ![1024, 2048]⟩
abbrev S_ : Shape := ⟨0, ![]⟩

class Facts : Prop where
  bcast_S_S2x4096x1024 : S_.BroadcastsInDim S2x4096x1024 (![] : Fin 0 → Fin S2x4096x1024.rank)
  reducesTo_S2x4096x1024_S_d0_1_2 : S2x4096x1024.ReducesTo [0, 1, 2] S_
  h_S_ : 0 < S_.numel
  bcast_S_S4384x1024 : S_.BroadcastsInDim S4384x1024 (![] : Fin 0 → Fin S4384x1024.rank)
  reducesTo_S4384x1024_S_d0_1 : S4384x1024.ReducesTo [0, 1] S_
  bcast_S_S2304x4 : S_.BroadcastsInDim S2304x4 (![] : Fin 0 → Fin S2304x4.rank)
  reducesTo_S2304x4_S_d0_1 : S2304x4.ReducesTo [0, 1] S_
  bcast_S_S2304 : S_.BroadcastsInDim S2304 (![] : Fin 0 → Fin S2304.rank)
  reducesTo_S2304_S_d0 : S2304.ReducesTo [0] S_
  bcast_S_S32 : S_.BroadcastsInDim S32 (![] : Fin 0 → Fin S32.rank)
  reducesTo_S32_S_d0 : S32.ReducesTo [0] S_

variable [Facts]

def fn_part1 {F : FTy → Type} [FloatOps F] (main_arg4 : FVec F S32 .f32) (main_arg5 : FVec F S32 .f32) (main_v13 : IVec S_ 1) (main_v16 : IVec S2304 1) : IVec S_ 1 :=
  let main_c_5 : IVec S_ 1 := constantI S_ 1 1#1
  let main_v17 : IVec S_ 1 := (fun x v => Host.reduce IntOp.andi x v reducesTo_S2304_S_d0 h_S_) main_v16 main_c_5
  let main_v18 : IVec S_ 1 := andi main_v13 main_v17
  let main_v19 : FVec F S32 .f32 := Host.absf main_arg4
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_cst_8 : FVec F S_ .f32 := constant S_ .f32 0x7F800000#32
  let main_v24 : FVec F S32 .f32 := broadcastInDim S32 ![] bcast_S_S32 main_cst_8
  let main_v25 : IVec S32 1 := cmpf .olt main_arg5 main_v24
  let main_c_9 : IVec S_ 1 := constantI S_ 1 1#1
  let main_v26 : IVec S_ 1 := (fun x v => Host.reduce IntOp.andi x v reducesTo_S32_S_d0 h_S_) main_v25 main_c_9
  let main_v27 : IVec S_ 1 := andi main_v23 main_v26
  main_v27

def fn {F : FTy → Type} [FloatOps F] (main_arg0 : FVec F S2x4096x1024 .f32) (main_arg1 : FVec F S4384x1024 .f32) (main_arg2 : FVec F S2304x4 .f32) (main_arg3 : FVec F S2304 .f32) (main_arg4 : FVec F S32 .f32) (main_arg5 : FVec F S32 .f32) (main_arg6 : FVec F S32 .f32) (main_arg7 : FVec F S2048 .f32) (main_arg8 : FVec F S1024x2048 .f32) : IVec S_ 1 :=
  let main_v0 : FVec F S2x4096x1024 .f32 := Host.absf main_arg0
  let main_cst : FVec F S_ .f32 := constant S_ .f32 0x7F800000#32
  let main_v1 : FVec F S2x4096x1024 .f32 := broadcastInDim S2x4096x1024 ![] bcast_S_S2x4096x1024 main_cst
  let main_v2 : IVec S2x4096x1024 1 := cmpf .olt main_v0 main_v1
  let main_c : IVec S_ 1 := constantI S_ 1 1#1
  let main_v3 : IVec S_ 1 := (fun x v => Host.reduce IntOp.andi x v reducesTo_S2x4096x1024_S_d0_1_2 h_S_) main_v2 main_c
  let main_v4 : FVec F S4384x1024 .f32 := Host.absf main_arg1
  let main_cst_0 : FVec F S_ .f32 := constant S_ .f32 0x7F800000#32
  let main_v5 : FVec F S4384x1024 .f32 := broadcastInDim S4384x1024 ![] bcast_S_S4384x1024 main_cst_0
  let main_v6 : IVec S4384x1024 1 := cmpf .olt main_v4 main_v5
  let main_c_1 : IVec S_ 1 := constantI S_ 1 1#1
  let main_v7 : IVec S_ 1 := (fun x v => Host.reduce IntOp.andi x v reducesTo_S4384x1024_S_d0_1 h_S_) main_v6 main_c_1
  let main_v8 : IVec S_ 1 := andi main_v3 main_v7
  let main_v9 : FVec F S2304x4 .f32 := Host.absf main_arg2
  let main_cst_2 : FVec F S_ .f32 := constant S_ .f32 0x7F800000#32
  let main_v10 : FVec F S2304x4 .f32 := broadcastInDim S2304x4 ![] bcast_S_S2304x4 main_cst_2
  let main_v11 : IVec S2304x4 1 := cmpf .olt main_v9 main_v10
  let main_c_3 : IVec S_ 1 := constantI S_ 1 1#1
  let main_v12 : IVec S_ 1 := (fun x v => Host.reduce IntOp.andi x v reducesTo_S2304x4_S_d0_1 h_S_) main_v11 main_c_3
  let main_v13 : IVec S_ 1 := andi main_v8 main_v12
  let main_v14 : FVec F S2304 .f32 := Host.absf main_arg3
  let main_cst_4 : FVec F S_ .f32 := constant S_ .f32 0x7F800000#32
  let main_v15 : FVec F S2304 .f32 := broadcastInDim S2304 ![] bcast_S_S2304 main_cst_4
  let main_v16 : IVec S2304 1 := cmpf .olt main_v14 main_v15
  fn_part1 (F := F) main_arg4 main_arg5 main_v13 main_v16
-- ==== Kernel.lean ====
abbrev S2x4096x1024 : Shape := ⟨3, ![2, 4096, 1024]⟩
abbrev S4384x1024 : Shape := ⟨2, ![4384, 1024]⟩
abbrev S2304x4 : Shape := ⟨2, ![2304, 4]⟩
abbrev S2304 : Shape := ⟨1, ![2304]⟩
abbrev S32 : Shape := ⟨1, ![32]⟩
abbrev S2048 : Shape := ⟨1, ![2048]⟩
abbrev S1024x2048 : Shape := ⟨2, ![1024, 2048]⟩
abbrev S32x2048 : Shape := ⟨2, ![32, 2048]⟩
abbrev S4x2304 : Shape := ⟨2, ![4, 2304]⟩
abbrev S32x64 : Shape := ⟨2, ![32, 64]⟩
abbrev S1x2048 : Shape := ⟨2, ![1, 2048]⟩
abbrev S1x2304 : Shape := ⟨2, ![1, 2304]⟩
abbrev S1x32 : Shape := ⟨2, ![1, 32]⟩
abbrev S1x256x1024 : Shape := ⟨3, ![1, 256, 1024]⟩
abbrev S256x4384 : Shape := ⟨2, ![256, 4384]⟩
abbrev S259x2304 : Shape := ⟨2, ![259, 2304]⟩
abbrev S128x2048 : Shape := ⟨2, ![128, 2048]⟩
abbrev S256x2048 : Shape := ⟨2, ![256, 2048]⟩
abbrev S256x1024 : Shape := ⟨2, ![256, 1024]⟩
abbrev S3x2304 : Shape := ⟨2, ![3, 2304]⟩
abbrev S256x2304 : Shape := ⟨2, ![256, 2304]⟩
abbrev S256x128 : Shape := ⟨2, ![256, 128]⟩
abbrev S256x32 : Shape := ⟨2, ![256, 32]⟩
abbrev S256x256 : Shape := ⟨2, ![256, 256]⟩
abbrev S32x256 : Shape := ⟨2, ![32, 256]⟩
abbrev S256x1 : Shape := ⟨2, ![256, 1]⟩
abbrev S1x256 : Shape := ⟨2, ![1, 256]⟩
abbrev S256x64 : Shape := ⟨2, ![256, 64]⟩
abbrev S256 : Shape := ⟨1, ![256]⟩

abbrev nBuf : Space → Nat
  | .hbm => 21
  | .vmem => 17
  | .smem => 0
  | _ => 0

abbrev bufTy : (tb : Table) → Fin (tcTables nBuf tb) → BufTy
  | .hbm, ⟨0, _⟩ => ⟨S2x4096x1024, .f32⟩
  | .hbm, ⟨1, _⟩ => ⟨S4384x1024, .f32⟩
  | .hbm, ⟨2, _⟩ => ⟨S2304x4, .f32⟩
  | .hbm, ⟨3, _⟩ => ⟨S2304, .f32⟩
  | .hbm, ⟨4, _⟩ => ⟨S32, .f32⟩
  | .hbm, ⟨5, _⟩ => ⟨S32, .f32⟩
  | .hbm, ⟨6, _⟩ => ⟨S32, .f32⟩
  | .hbm, ⟨7, _⟩ => ⟨S2048, .f32⟩
  | .hbm, ⟨8, _⟩ => ⟨S1024x2048, .f32⟩
  | .hbm, ⟨9, _⟩ => ⟨S32x2048, .bf16⟩
  | .hbm, ⟨10, _⟩ => ⟨S4384x1024, .bf16⟩
  | .hbm, ⟨11, _⟩ => ⟨S1024x2048, .bf16⟩
  | .hbm, ⟨12, _⟩ => ⟨S4x2304, .f32⟩
  | .hbm, ⟨13, _⟩ => ⟨S32x64, .f32⟩
  | .hbm, ⟨14, _⟩ => ⟨S2048, .f32⟩
  | .hbm, ⟨15, _⟩ => ⟨S1x2048, .f32⟩
  | .hbm, ⟨16, _⟩ => ⟨S1x2304, .f32⟩
  | .hbm, ⟨17, _⟩ => ⟨S1x32, .f32⟩
  | .hbm, ⟨18, _⟩ => ⟨S1x32, .f32⟩
  | .hbm, ⟨19, _⟩ => ⟨S1x2048, .f32⟩
  | .hbm, ⟨20, _⟩ => ⟨S2x4096x1024, .f32⟩
  | .local _ .vmem, ⟨0, _⟩ => ⟨S1x256x1024, .f32⟩
  | .local _ .vmem, ⟨1, _⟩ => ⟨S1x256x1024, .f32⟩
  | .local _ .vmem, ⟨2, _⟩ => ⟨S4384x1024, .bf16⟩
  | .local _ .vmem, ⟨3, _⟩ => ⟨S4x2304, .f32⟩
  | .local _ .vmem, ⟨4, _⟩ => ⟨S1x2304, .f32⟩
  | .local _ .vmem, ⟨5, _⟩ => ⟨S1x32, .f32⟩
  | .local _ .vmem, ⟨6, _⟩ => ⟨S1x32, .f32⟩
  | .local _ .vmem, ⟨7, _⟩ => ⟨S1x2048, .f32⟩
  | .local _ .vmem, ⟨8, _⟩ => ⟨S1x2048, .f32⟩
  | .local _ .vmem, ⟨9, _⟩ => ⟨S1024x2048, .bf16⟩
  | .local _ .vmem, ⟨10, _⟩ => ⟨S32x2048, .bf16⟩
  | .local _ .vmem, ⟨11, _⟩ => ⟨S1x256x1024, .f32⟩
  | .local _ .vmem, ⟨12, _⟩ => ⟨S1x256x1024, .f32⟩
  | .local _ .vmem, ⟨13, _⟩ => ⟨S256x4384, .f32⟩
  | .local _ .vmem, ⟨14, _⟩ => ⟨S259x2304, .f32⟩
  | .local _ .vmem, ⟨15, _⟩ => ⟨S128x2048, .f32⟩
  | .local _ .vmem, ⟨16, _⟩ => ⟨S256x2048, .f32⟩
  | _, _ => ⟨S2x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg10_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_scratch3 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem10_1 : DmaSem sig := 12

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S4384x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S4x2304 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x2304 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S32x2048 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== KernelIdeal.lean ====
variable {F : FTy → Type} [FloatOps F] [Named F]
def κ : String → Option EReal := fun
  | "log2e" => some (((Real.log 2)⁻¹ : ℝ) : EReal)
  | _ => none
-- ==== ReferenceIdeal.lean ====
abbrev S2x4096x1024 : Shape := ⟨3, ![2, 4096, 1024]⟩
abbrev S4384x1024 : Shape := ⟨2, ![4384, 1024]⟩
abbrev S2304x4 : Shape := ⟨2, ![2304, 4]⟩
abbrev S2304 : Shape := ⟨1, ![2304]⟩
abbrev S32 : Shape := ⟨1, ![32]⟩
abbrev S2048 : Shape := ⟨1, ![2048]⟩
abbrev S1024x2048 : Shape := ⟨2, ![1024, 2048]⟩
abbrev S2x4096x4384 : Shape := ⟨3, ![2, 4096, 4384]⟩
abbrev S2x4096x2048 : Shape := ⟨3, ![2, 4096, 2048]⟩
abbrev S2x4096x2304 : Shape := ⟨3, ![2, 4096, 2304]⟩
abbrev S2x4096x32 : Shape := ⟨3, ![2, 4096, 32]⟩
abbrev S_ : Shape := ⟨0, ![]⟩
abbrev S2x4099x2304 : Shape := ⟨3, ![2, 4099, 2304]⟩
abbrev S2304x1 : Shape := ⟨2, ![2304, 1]⟩
abbrev S1x1x2304 : Shape := ⟨3, ![1, 1, 2304]⟩
abbrev S2x4096x32x64 : Shape := ⟨4, ![2, 4096, 32, 64]⟩
abbrev S2x4096x128 : Shape := ⟨3, ![2, 4096, 128]⟩
abbrev S1x1x32 : Shape := ⟨3, ![1, 1, 32]⟩
abbrev S2x4096x32x1 : Shape := ⟨4, ![2, 4096, 32, 1]⟩
abbrev S2x32x64x128 : Shape := ⟨4, ![2, 32, 64, 128]⟩
abbrev S4096x2x32 : Shape := ⟨3, ![4096, 2, 32]⟩
abbrev S4096x2x32x64 : Shape := ⟨4, ![4096, 2, 32, 64]⟩
abbrev S4096x2x128 : Shape := ⟨3, ![4096, 2, 128]⟩
abbrev S1x2x32 : Shape := ⟨3, ![1, 2, 32]⟩
abbrev S2x32 : Shape := ⟨2, ![2, 32]⟩
abbrev S1x2x32x64 : Shape := ⟨4, ![1, 2, 32, 64]⟩
abbrev S2x32x64 : Shape := ⟨3, ![2, 32, 64]⟩
abbrev S1x2x128 : Shape := ⟨3, ![1, 2, 128]⟩
abbrev S2x128 : Shape := ⟨2, ![2, 128]⟩
abbrev S2x32x1x1 : Shape := ⟨4, ![2, 32, 1, 1]⟩
abbrev S2x32x64x1 : Shape := ⟨4, ![2, 32, 64, 1]⟩
abbrev S2x1x1x128 : Shape := ⟨4, ![2, 1, 1, 128]⟩
abbrev S1x1x32x1 : Shape := ⟨4, ![1, 1, 32, 1]⟩
abbrev S2x4096 : Shape := ⟨2, ![2, 4096]⟩
abbrev S2x4096x1 : Shape := ⟨3, ![2, 4096, 1]⟩
abbrev S1x1x2048 : Shape := ⟨3, ![1, 1, 2048]⟩

abbrev nBuf : Space → Nat
  | .hbm => 173
  | .vmem => 0
  | .smem => 0
  | _ => 0

abbrev hbmTy0_0 (i : Nat) : BufTy := match i % 128 with
  | 0 => ⟨S2x4096x1024, .f32⟩
  | 1 => ⟨S4384x1024, .f32⟩
  | 2 => ⟨S2304x4, .f32⟩
  | 3 => ⟨S2304, .f32⟩
  | 4 => ⟨S32, .f32⟩
  | 5 => ⟨S32, .f32⟩
  | 6 => ⟨S32, .f32⟩
  | 7 => ⟨S2048, .f32⟩
  | 8 => ⟨S1024x2048, .f32⟩
  | 9 => ⟨S2x4096x4384, .f32⟩
  | 10 => ⟨S2x4096x2048, .f32⟩
  | 11 => ⟨S2x4096x2304, .f32⟩
  | 12 => ⟨S2x4096x32, .f32⟩
  | 13 => ⟨S_, .i32⟩
  | 14 => ⟨S_, .f32⟩
  | 15 => ⟨S2x4099x2304, .f32⟩
  | 16 => ⟨S2x4096x2304, .f32⟩
  | 17 => ⟨S2304x1, .f32⟩
  | 18 => ⟨S2304, .f32⟩
  | 19 => ⟨S1x1x2304, .f32⟩
  | 20 => ⟨S2x4096x2304, .f32⟩
  | 21 => ⟨S2x4096x2304, .f32⟩
  | 22 => ⟨S_, .f32⟩
  | 23 => ⟨S2x4096x2304, .f32⟩
  | 24 => ⟨S2x4096x2304, .f32⟩
  | 25 => ⟨S2x4096x2304, .f32⟩
  | 26 => ⟨S2304x1, .f32⟩
  | 27 => ⟨S2304, .f32⟩
  | 28 => ⟨S1x1x2304, .f32⟩
  | 29 => ⟨S2x4096x2304, .f32⟩
  | 30 => ⟨S2x4096x2304, .f32⟩
  | 31 => ⟨S2x4096x2304, .f32⟩
  | 32 => ⟨S2x4096x2304, .f32⟩
  | 33 => ⟨S2304x1, .f32⟩
  | 34 => ⟨S2304, .f32⟩
  | 35 => ⟨S1x1x2304, .f32⟩
  | 36 => ⟨S2x4096x2304, .f32⟩
  | 37 => ⟨S2x4096x2304, .f32⟩
  | 38 => ⟨S2x4096x2304, .f32⟩
  | 39 => ⟨S2x4096x2304, .f32⟩
  | 40 => ⟨S2304x1, .f32⟩
  | 41 => ⟨S2304, .f32⟩
  | 42 => ⟨S1x1x2304, .f32⟩
  | 43 => ⟨S2x4096x2304, .f32⟩
  | 44 => ⟨S2x4096x2304, .f32⟩
  | 45 => ⟨S2x4096x2304, .f32⟩
  | 46 => ⟨S1x1x2304, .f32⟩
  | 47 => ⟨S2x4096x2304, .f32⟩
  | 48 => ⟨S2x4096x2304, .f32⟩
  | 49 => ⟨S2x4096x2304, .f32⟩
  | 50 => ⟨S2x4096x2304, .f32⟩
  | 51 => ⟨S_, .f32⟩
  | 52 => ⟨S2x4096x2304, .f32⟩
  | 53 => ⟨S2x4096x2304, .f32⟩
  | 54 => ⟨S_, .f32⟩
  | 55 => ⟨S2x4096x2304, .f32⟩
  | 56 => ⟨S2x4096x2304, .f32⟩
  | 57 => ⟨S2x4096x2304, .f32⟩
  | 58 => ⟨S2x4096x2048, .f32⟩
  | 59 => ⟨S2x4096x32x64, .f32⟩
  | 60 => ⟨S2x4096x128, .f32⟩
  | 61 => ⟨S2x4096x128, .f32⟩
  | 62 => ⟨S1x1x32, .f32⟩
  | 63 => ⟨S2x4096x32, .f32⟩
  | 64 => ⟨S2x4096x32, .f32⟩
  | 65 => ⟨S_, .f32⟩
  | 66 => ⟨S2x4096x32, .f32⟩
  | 67 => ⟨S2x4096x32, .f32⟩
  | 68 => ⟨S2x4096x32, .f32⟩
  | 69 => ⟨S2x4096x32, .f32⟩
  | 70 => ⟨S2x4096x32, .i1⟩
  | 71 => ⟨S2x4096x32, .f32⟩
  | 72 => ⟨S2x4096x32, .f32⟩
  | 73 => ⟨S2x4096x32, .f32⟩
  | 74 => ⟨S2x4096x32, .f32⟩
  | 75 => ⟨S2x4096x32, .f32⟩
  | 76 => ⟨S2x4096x32, .f32⟩
  | 77 => ⟨S2x4096x32, .f32⟩
  | 78 => ⟨S2x4096x32, .f32⟩
  | 79 => ⟨S32, .f32⟩
  | 80 => ⟨S32, .f32⟩
  | 81 => ⟨S1x1x32, .f32⟩
  | 82 => ⟨S2x4096x32, .f32⟩
  | 83 => ⟨S2x4096x32, .f32⟩
  | 84 => ⟨S2x4096x32, .f32⟩
  | 85 => ⟨S2x4096x32x1, .f32⟩
  | 86 => ⟨S2x4096x32x64, .f32⟩
  | 87 => ⟨S2x4096x32x64, .f32⟩
  | 88 => ⟨S_, .f32⟩
  | 89 => ⟨S2x32x64x128, .f32⟩
  | 90 => ⟨S4096x2x32, .f32⟩
  | 91 => ⟨S4096x2x32x64, .f32⟩
  | 92 => ⟨S4096x2x128, .f32⟩
  | 93 => ⟨S4096x2x128, .f32⟩
  | 94 => ⟨S_, .f32⟩
  | 95 => ⟨S4096x2x32x64, .f32⟩
  | 96 => ⟨S_, .i32⟩
  | 97 => ⟨S4096x2x32, .f32⟩
  | 98 => ⟨S4096x2x32x64, .f32⟩
  | 99 => ⟨S4096x2x128, .f32⟩
  | 100 => ⟨S4096x2x128, .f32⟩
  | 101 => ⟨S_, .i32⟩
  | 102 => ⟨S2x32x64x128, .f32⟩
  | 103 => ⟨S4096x2x32x64, .f32⟩
  | 104 => ⟨S_, .i32⟩
  | 105 => ⟨S_, .i1⟩
  | 106 => ⟨S_, .i32⟩
  | 107 => ⟨S_, .i32⟩
  | 108 => ⟨S1x2x32, .f32⟩
  | 109 => ⟨S2x32, .f32⟩
  | 110 => ⟨S_, .i32⟩
  | 111 => ⟨S_, .i32⟩
  | 112 => ⟨S_, .i32⟩
  | 113 => ⟨S1x2x32x64, .f32⟩
  | 114 => ⟨S2x32x64, .f32⟩
  | 115 => ⟨S_, .i32⟩
  | 116 => ⟨S_, .i32⟩
  | 117 => ⟨S1x2x128, .f32⟩
  | 118 => ⟨S2x128, .f32⟩
  | 119 => ⟨S_, .i32⟩
  | 120 => ⟨S_, .i32⟩
  | 121 => ⟨S1x2x128, .f32⟩
  | 122 => ⟨S2x128, .f32⟩
  | 123 => ⟨S2x32x1x1, .f32⟩
  | 124 => ⟨S2x32x64x128, .f32⟩
  | 125 => ⟨S2x32x64x128, .f32⟩
  | 126 => ⟨S2x32x64x1, .f32⟩
  | 127 => ⟨S2x1x1x128, .f32⟩
  | _ => ⟨S2x4096x1024, .f32⟩

abbrev hbmTy0_1 (i : Nat) : BufTy := match i % 128 with
  | 0 => ⟨S2x32x64x128, .f32⟩
  | 1 => ⟨S2x32x64x128, .f32⟩
  | 2 => ⟨S2x32x64x128, .f32⟩
  | 3 => ⟨S2x32x64x128, .f32⟩
  | 4 => ⟨S2x32x64, .f32⟩
  | 5 => ⟨S1x2x32x64, .f32⟩
  | 6 => ⟨S_, .i32⟩
  | 7 => ⟨S_, .i32⟩
  | 8 => ⟨S_, .i32⟩
  | 9 => ⟨S4096x2x32x64, .f32⟩
  | 10 => ⟨S_, .i32⟩
  | 11 => ⟨S_, .i32⟩
  | 12 => ⟨S2x4096x32x64, .f32⟩
  | 13 => ⟨S1x1x32x1, .f32⟩
  | 14 => ⟨S2x4096x32x64, .f32⟩
  | 15 => ⟨S2x4096x32x64, .f32⟩
  | 16 => ⟨S2x4096x32x64, .f32⟩
  | 17 => ⟨S2x4096x2048, .f32⟩
  | 18 => ⟨S2x4096x2048, .f32⟩
  | 19 => ⟨S2x4096x2048, .f32⟩
  | 20 => ⟨S_, .f32⟩
  | 21 => ⟨S2x4096x2048, .f32⟩
  | 22 => ⟨S2x4096x2048, .f32⟩
  | 23 => ⟨S_, .f32⟩
  | 24 => ⟨S2x4096x2048, .f32⟩
  | 25 => ⟨S2x4096x2048, .f32⟩
  | 26 => ⟨S2x4096x2048, .f32⟩
  | 27 => ⟨S2x4096x2048, .f32⟩
  | 28 => ⟨S2x4096x2048, .f32⟩
  | 29 => ⟨S_, .f32⟩
  | 30 => ⟨S2x4096, .f32⟩
  | 31 => ⟨S2x4096x1, .f32⟩
  | 32 => ⟨S_, .f32⟩
  | 33 => ⟨S2x4096x1, .f32⟩
  | 34 => ⟨S2x4096x1, .f32⟩
  | 35 => ⟨S_, .f32⟩
  | 36 => ⟨S2x4096x1, .f32⟩
  | 37 => ⟨S2x4096x1, .f32⟩
  | 38 => ⟨S2x4096x1, .f32⟩
  | 39 => ⟨S2x4096x2048, .f32⟩
  | 40 => ⟨S2x4096x2048, .f32⟩
  | 41 => ⟨S1x1x2048, .f32⟩
  | 42 => ⟨S2x4096x2048, .f32⟩
  | 43 => ⟨S2x4096x2048, .f32⟩
  | 44 => ⟨S2x4096x1024, .f32⟩
  | _ => ⟨S2x4096x1024, .f32⟩

abbrev hbmTy (i : Nat) : BufTy := match i / 128 with
  | 0 => hbmTy0_0 i
  | 1 => hbmTy0_1 i
  | _ => ⟨S2x4096x1024, .f32⟩

abbrev bufTy : (tb : Table) → Fin (tcTables nBuf tb) → BufTy
  | .hbm, ⟨i, _⟩ => hbmTy i
  | _, _ => ⟨S2x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_call0_v0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_call1_v0 : Ref sig .tc := ⟨.hbm, 49, rfl⟩
abbrev main_call1_v1 : Ref sig .tc := ⟨.hbm, 50, rfl⟩
abbrev main_call1_cst : Ref sig .tc := ⟨.hbm, 51, rfl⟩
abbrev main_call1_v2 : Ref sig .tc := ⟨.hbm, 52, rfl⟩
abbrev main_call1_v3 : Ref sig .tc := ⟨.hbm, 53, rfl⟩
abbrev main_call1_cst_0 : Ref sig .tc := ⟨.hbm, 54, rfl⟩
abbrev main_call1_v4 : Ref sig .tc := ⟨.hbm, 55, rfl⟩
abbrev main_call1_v5 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_call2_cst : Ref sig .tc := ⟨.hbm, 65, rfl⟩
abbrev main_call2_v0 : Ref sig .tc := ⟨.hbm, 66, rfl⟩
abbrev main_call2_v1 : Ref sig .tc := ⟨.hbm, 67, rfl⟩
abbrev main_call2_v2 : Ref sig .tc := ⟨.hbm, 68, rfl⟩
abbrev main_call2_v3 : Ref sig .tc := ⟨.hbm, 69, rfl⟩
abbrev main_call2_v4 : Ref sig .tc := ⟨.hbm, 70, rfl⟩
abbrev main_call2_v5 : Ref sig .tc := ⟨.hbm, 71, rfl⟩
abbrev main_call2_v6 : Ref sig .tc := ⟨.hbm, 72, rfl⟩
abbrev main_call2_v7 : Ref sig .tc := ⟨.hbm, 73, rfl⟩
abbrev main_call2_v8 : Ref sig .tc := ⟨.hbm, 74, rfl⟩
abbrev main_call2_v9 : Ref sig .tc := ⟨.hbm, 75, rfl⟩
abbrev main_call2_v10 : Ref sig .tc := ⟨.hbm, 76, rfl⟩
abbrev main_call2_v11 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_cst_0 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_cst_1 : Ref sig .tc := ⟨.hbm, 94, rfl⟩
abbrev main_v60 : Ref sig .tc := ⟨.hbm, 95, rfl⟩
abbrev main_c_2 : Ref sig .tc := ⟨.hbm, 96, rfl⟩
abbrev main_v61_0 : Ref sig .tc := ⟨.hbm, 97, rfl⟩
abbrev main_v61_1 : Ref sig .tc := ⟨.hbm, 98, rfl⟩
abbrev main_v61_2 : Ref sig .tc := ⟨.hbm, 99, rfl⟩
abbrev main_v61_3 : Ref sig .tc := ⟨.hbm, 100, rfl⟩
abbrev main_v61_4 : Ref sig .tc := ⟨.hbm, 101, rfl⟩
abbrev main_v61_5 : Ref sig .tc := ⟨.hbm, 102, rfl⟩
abbrev main_v61_6 : Ref sig .tc := ⟨.hbm, 103, rfl⟩
abbrev main_while0c_c_12 : Ref sig .tc := ⟨.hbm, 104, rfl⟩
abbrev main_while0c_v84 : Ref sig .tc := ⟨.hbm, 105, rfl⟩
abbrev main_while0b_call3_c : Ref sig .tc := ⟨.hbm, 106, rfl⟩
abbrev main_while0b_call3_c_0 : Ref sig .tc := ⟨.hbm, 107, rfl⟩
abbrev main_while0b_call3_v0 : Ref sig .tc := ⟨.hbm, 108, rfl⟩
abbrev main_while0b_v84 : Ref sig .tc := ⟨.hbm, 109, rfl⟩
abbrev main_while0b_call4_c : Ref sig .tc := ⟨.hbm, 110, rfl⟩
abbrev main_while0b_call4_c_0 : Ref sig .tc := ⟨.hbm, 111, rfl⟩
abbrev main_while0b_call4_c_1 : Ref sig .tc := ⟨.hbm, 112, rfl⟩
abbrev main_while0b_call4_v0 : Ref sig .tc := ⟨.hbm, 113, rfl⟩
abbrev main_while0b_v85 : Ref sig .tc := ⟨.hbm, 114, rfl⟩
abbrev main_while0b_call5_c : Ref sig .tc := ⟨.hbm, 115, rfl⟩
abbrev main_while0b_call5_c_0 : Ref sig .tc := ⟨.hbm, 116, rfl⟩
abbrev main_while0b_call5_v0 : Ref sig .tc := ⟨.hbm, 117, rfl⟩
abbrev main_while0b_v86 : Ref sig .tc := ⟨.hbm, 118, rfl⟩
abbrev main_while0b_call6_c : Ref sig .tc := ⟨.hbm, 119, rfl⟩
abbrev main_while0b_call6_c_0 : Ref sig .tc := ⟨.hbm, 120, rfl⟩
abbrev main_while0b_call6_v0 : Ref sig .tc := ⟨.hbm, 121, rfl⟩
abbrev main_while0b_v87 : Ref sig .tc := ⟨.hbm, 122, rfl⟩
abbrev main_while0b_v88 : Ref sig .tc := ⟨.hbm, 123, rfl⟩
abbrev main_while0b_v89 : Ref sig .tc := ⟨.hbm, 124, rfl⟩
abbrev main_while0b_v90 : Ref sig .tc := ⟨.hbm, 125, rfl⟩
abbrev main_while0b_v91 : Ref sig .tc := ⟨.hbm, 126, rfl⟩
abbrev main_while0b_v92 : Ref sig .tc := ⟨.hbm, 127, rfl⟩
abbrev main_while0b_v93 : Ref sig .tc := ⟨.hbm, 128, rfl⟩
abbrev main_while0b_v94 : Ref sig .tc := ⟨.hbm, 129, rfl⟩
abbrev main_while0b_v95 : Ref sig .tc := ⟨.hbm, 130, rfl⟩
abbrev main_while0b_v96 : Ref sig .tc := ⟨.hbm, 131, rfl⟩
abbrev main_while0b_v97 : Ref sig .tc := ⟨.hbm, 132, rfl⟩
abbrev main_while0b_call7_v0 : Ref sig .tc := ⟨.hbm, 133, rfl⟩
abbrev main_while0b_call7_c : Ref sig .tc := ⟨.hbm, 134, rfl⟩
abbrev main_while0b_call7_c_0 : Ref sig .tc := ⟨.hbm, 135, rfl⟩
abbrev main_while0b_call7_c_1 : Ref sig .tc := ⟨.hbm, 136, rfl⟩
abbrev main_while0b_v98 : Ref sig .tc := ⟨.hbm, 137, rfl⟩
abbrev main_while0b_c_12 : Ref sig .tc := ⟨.hbm, 138, rfl⟩
abbrev main_while0b_v99 : Ref sig .tc := ⟨.hbm, 139, rfl⟩
abbrev main_v62 : Ref sig .tc := ⟨.hbm, 140, rfl⟩
abbrev main_v63 : Ref sig .tc := ⟨.hbm, 141, rfl⟩
abbrev main_v64 : Ref sig .tc := ⟨.hbm, 142, rfl⟩
abbrev main_v65 : Ref sig .tc := ⟨.hbm, 143, rfl⟩
abbrev main_v66 : Ref sig .tc := ⟨.hbm, 144, rfl⟩
abbrev main_v67 : Ref sig .tc := ⟨.hbm, 145, rfl⟩
abbrev main_call8_v0 : Ref sig .tc := ⟨.hbm, 146, rfl⟩
abbrev main_call8_v1 : Ref sig .tc := ⟨.hbm, 147, rfl⟩
abbrev main_call8_cst : Ref sig .tc := ⟨.hbm, 148, rfl⟩
abbrev main_call8_v2 : Ref sig .tc := ⟨.hbm, 149, rfl⟩
abbrev main_call8_v3 : Ref sig .tc := ⟨.hbm, 150, rfl⟩
abbrev main_call8_cst_0 : Ref sig .tc := ⟨.hbm, 151, rfl⟩
abbrev main_call8_v4 : Ref sig .tc := ⟨.hbm, 152, rfl⟩
abbrev main_call8_v5 : Ref sig .tc := ⟨.hbm, 153, rfl⟩
abbrev main_v68 : Ref sig .tc := ⟨.hbm, 154, rfl⟩
abbrev main_v69 : Ref sig .tc := ⟨.hbm, 155, rfl⟩
abbrev main_v70 : Ref sig .tc := ⟨.hbm, 156, rfl⟩
abbrev main_cst_3 : Ref sig .tc := ⟨.hbm, 157, rfl⟩
abbrev main_v71 : Ref sig .tc := ⟨.hbm, 158, rfl⟩
abbrev main_v72 : Ref sig .tc := ⟨.hbm, 159, rfl⟩
abbrev main_cst_4 : Ref sig .tc := ⟨.hbm, 160, rfl⟩
abbrev main_v73 : Ref sig .tc := ⟨.hbm, 161, rfl⟩
abbrev main_v74 : Ref sig .tc := ⟨.hbm, 162, rfl⟩
abbrev main_cst_5 : Ref sig .tc := ⟨.hbm, 163, rfl⟩
abbrev main_v75 : Ref sig .tc := ⟨.hbm, 164, rfl⟩
abbrev main_v76 : Ref sig .tc := ⟨.hbm, 165, rfl⟩
abbrev main_v77 : Ref sig .tc := ⟨.hbm, 166, rfl⟩
abbrev main_v78 : Ref sig .tc := ⟨.hbm, 167, rfl⟩
abbrev main_v79 : Ref sig .tc := ⟨.hbm, 168, rfl⟩
abbrev main_v80 : Ref sig .tc := ⟨.hbm, 169, rfl⟩
abbrev main_v81 : Ref sig .tc := ⟨.hbm, 170, rfl⟩
abbrev main_v82 : Ref sig .tc := ⟨.hbm, 171, rfl⟩
abbrev main_v83 : Ref sig .tc := ⟨.hbm, 172, rfl⟩

abbrev nD : Nat := 1
abbrev τ : Topo := Topo.v7x

variable {F : FTy → Type} [FloatOps F]

abbrev main_while0_count : Scf.Loop 32 := ⟨0#32, 4096#32, 1#32⟩
-- ==== Proof.Chunk.lean ====
/- What the kernel's body computes at one grid point, as arrays, stage by stage.

   A grid point is given the projection's columns, the convolution's input with its carried rows in front, its blocks of the
   other operands and the carried state (`In`). The stages are named as the body goes: the gated
   convolution, the step sizes, the cumulative logs, the 32 heads side by side, and what the point leaves. -/
module

public import proofs.«01_k».proof.Proof.Gen.KernelIdeal.Value
public import Idealize.ShloMosaic.Lib.Pipeline.ValueKit
public import Idealize.ShloMosaic.Lib.Pointwise

@[expose] public section

set_option maxRecDepth 16384

noncomputable section

namespace Cert.Chunk

open Idealize.ShloMosaic Idealize.ShloMosaic.TcCoe Idealize.SL.Sem
open Cert.KernelIdeal Cert.KernelIdeal.Gen

/-- The projection of a block's rows. -/
def zx (x : FVec Ideal S1x256x1024 .f32) (W : FVec Ideal S4384x1024 .bf16) : FVec Ideal S256x4384 .f32 := k0_pay2 x W

/-- Its columns: the gate's, the ones the convolution reads, the step sizes'. -/
def gateOf (p : FVec Ideal S256x4384 .f32) : FVec Ideal S256x2048 .f32 :=
  fun i => p (ix2 (i 0) ⟨0 + (i 1).val, by have := (i 1).isLt; simp at this; omega⟩)
def midOf (p : FVec Ideal S256x4384 .f32) : FVec Ideal S256x2304 .f32 :=
  fun i => p (ix2 (i 0) ⟨2048 + (i 1).val, by have := (i 1).isLt; simp at this; omega⟩)
def dtOf (p : FVec Ideal S256x4384 .f32) : FVec Ideal S256x32 .f32 :=
  fun i => p (ix2 (i 0) ⟨4352 + (i 1).val, by have := (i 1).isLt; simp at this; omega⟩)

/-- The convolution's input: three carried rows, then the block's. -/
def extOf (prev : S259x2304.Idx → Ideal .f32) (q : FVec Ideal S256x2304 .f32) : FVec Ideal S259x2304 .f32 := fun i =>
  if h : (i 0).val < 3 then prev i
  else q (ix2 ⟨(i 0).val - 3, by have := (i 0).isLt; simp at this; omega⟩ (i 1))

/-- Tap `k`'s weights. -/
def tap (cw : FVec Ideal S4x2304 .f32) (k : Nat) (hk : ∀ a, (![k, 0] : Fin 2 → Nat) a + (![1, 2304] : Fin 2 → Nat) a ≤ S4x2304.size a) :
    FVec Ideal S1x2304 .f32 :=
  View.ld (Val := Elt Ideal) (e' := .f32) cw (Rect.unit (s := S4x2304) ![k, 0] ![1, 2304] hk)

/-- What a grid point is given. -/
structure In where
  gate : FVec Ideal S256x2048 .f32
  dtr : FVec Ideal S256x32 .f32
  e : FVec Ideal S259x2304 .f32
  t0 : FVec Ideal S1x2304 .f32
  t1 : FVec Ideal S1x2304 .f32
  t2 : FVec Ideal S1x2304 .f32
  t3 : FVec Ideal S1x2304 .f32
  cb : FVec Ideal S1x2304 .f32
  db : FVec Ideal S1x32 .f32
  al : FVec Ideal S1x32 .f32
  d : FVec Ideal S1x2048 .f32
  nw : FVec Ideal S1x2048 .f32
  Wo : FVec Ideal S1024x2048 .bf16
  E : FVec Ideal S32x2048 .bf16
  st : FVec Ideal S128x2048 .f32

variable (I : In)

/-- The gated convolution, and its three parts. -/
def act : FVec Ideal S256x2304 .f32 :=
  k0_pay9 I.e (k0_pay6 I.e I.cb I.t0) (k0_pay7 I.e) (k0_pay8 I.t1) I.t2 I.t3
def xs : FVec Ideal S256x2048 .f32 := extractStridedSlice S256x2048 ![0, 0] (act I) slices_S256x2304_o0_0_S256x2048
def Bm : FVec Ideal S256x128 .f32 := extractStridedSlice S256x128 ![0, 2048] (act I) slices_S256x2304_o0_2048_S256x128
def Cm : FVec Ideal S256x128 .f32 := extractStridedSlice S256x128 ![0, 2176] (act I) slices_S256x2304_o0_2176_S256x128

/-- The step sizes and the cumulative logs of the decays, in base two. -/
def dt : FVec Ideal S256x32 .f32 := k0_pay14 I.dtr I.db
def zero32 : Ideal .f32 := Scalar.ofBits .f32 0x00000000#32
def cum : FVec Ideal S256x32 .f32 := k0_pay17 (dt I) (k0_pay15 I.al) zero32
def cumT : FVec Ideal S32x256 .f32 := k0_pay18 (dt I) (k0_pay15 I.al) zero32

/-- The decays from the block's start and to its end, and the state's inputs, head by head along the columns. -/
def fromStart : FVec Ideal S256x2048 .f32 := k0_pay19 (dt I) (k0_pay15 I.al) zero32 I.E
def toEnd : FVec Ideal S256x2048 .f32 := k0_pay20 (dt I) (k0_pay15 I.al) zero32 I.E
def xdt : FVec Ideal S256x2048 .f32 := k0_pay21 (xs I) (dt I) I.E

/-- The masked products of the output and input directions. -/
def mask : FVec Ideal S256x256 .f32 := k0_pay22 (Bm I) (Cm I)

theorem slices_col (h : Fin 32) : S256x32.Slices ![0, h.val] S256x1 := by revert h; decide
theorem slices_row (h : Fin 32) : S32x256.Slices ![h.val, 0] S1x256 := by revert h; decide

/-- One head's columns of the inputs. -/
def cols (u : FVec Ideal S256x2048 .f32) (h : Fin 32) : FVec Ideal S256x64 .f32 :=
  fun i => u (ix2 (i 0) ⟨64 * h.val + (i 1).val, by have := (i 1).isLt; simp at this; omega⟩)

/-- One head's output within the block. -/
def headOut (c : FVec Ideal S256x32 .f32) (cT : FVec Ideal S32x256 .f32) (g : FVec Ideal S256x256 .f32) (h : Fin 32)
    (u : FVec Ideal S256x64 .f32) : FVec Ideal S256x64 .f32 :=
  matmul dot_S256x256_S256x64_S256x64_1_0_0_1_n_n none
    (mulf g (exp2 (minimumf
      (subf (broadcastTo S256x256 (extractStridedSlice S256x1 ![0, h.val] c (slices_col h)) broadcasts_S256x1_S256x256)
        (broadcastTo S256x256 (extractStridedSlice S1x256 ![h.val, 0] cT (slices_row h)) broadcasts_S1x256_S256x256))
      (broadcast S256x256 (Scalar.ofBits .f32 0x00000000#32)))))
    u (constant S256x64 .f32 0x00000000#32)

/-- The heads' outputs. -/
def pieces (us : Fin 32 → FVec Ideal S256x64 .f32) : List ((s : Shape) × (s.Idx → Ideal .f32)) :=
  List.ofFn fun h : Fin 32 => ⟨S256x64, headOut (cum I) (cumT I) (mask I) h (us h)⟩

theorem concatenates (us : Fin 32 → FVec Ideal S256x64 .f32) : Shape.Concatenates ((pieces I us).map (·.1)) S256x2048 1 :=
  concatenates_S256x64_S256x64_S256x64_S256x64_S256x64_S256x64_S256x64_S256x64_S256x64_S256x64_S256x64_S256x64_S256x64_S256x64_S256x64_S256x64_S256x64_S256x64_S256x64_S256x64_S256x64_S256x64_S256x64_S256x64_S256x64_S256x64_S256x64_S256x64_S256x64_S256x64_S256x64_S256x64_S256x2048_d1

/-- The recurrence's output with the skip. -/
def y (us : Fin 32 → FVec Ideal S256x64 .f32) : FVec Ideal S256x2048 .f32 :=
  addf (addf (concatenate S256x2048 1 (pieces I us) (concatenates I us))
      (mulf (matmul dot_S256x128_S128x2048_S256x2048_1_0_0_1_n_n none (Cm I) I.st (constant S256x2048 .f32 0x00000000#32)) (fromStart I)))
    (mulf (xs I) (broadcastTo S256x2048 (shapeCast S1x2048 (shapeCast S2048 I.d shapeCasts_S1x2048_S2048) shapeCasts_S2048_S1x2048) broadcasts_S1x2048_S256x2048))

/-- What the point leaves: the output block and the carried state. -/
def out (us : Fin 32 → FVec Ideal S256x64 .f32) : FVec Ideal S1x256x1024 .f32 :=
  k0_pay1 (k0_pay70 (y I us) I.gate I.nw) (k0_pay71 I.Wo)
def stNext (u : FVec Ideal S256x2048 .f32) : FVec Ideal S128x2048 .f32 := k0_pay69 (Bm I) (fromStart I) (toEnd I) u I.st

end Cert.Chunk

end
-- ==== Proof.Reads.lean ====
/- Reads of the kernel's buffers after stores, and what a grid point is given. -/
module

public import proofs.«01_k».proof.Proof.Chunk
public import Idealize.ShloMosaic.Lib.Pipeline.ReadBack
public import Idealize.ShloMosaic.Lib.WritesUnit

@[expose] public section

set_option maxRecDepth 16384

noncomputable section

namespace Cert.Chunk

open Idealize.ShloMosaic Idealize.ShloMosaic.TcCoe Idealize.SL.Sem
open Cert.KernelIdeal Cert.KernelIdeal.Gen

theorem readCov_cols {sig : RefSig} {κ : Kind} {sp : Space} {e : EltTy} {r n w o : Nat} (v : View sig κ sp (⟨2, ![r, n]⟩ : Shape) e)
    (inb : ∀ a, (![0, 0] : Fin 2 → Nat) a + (⟨2, ![r, n]⟩ : Shape).size a ≤ (⟨2, ![r, n]⟩ : Shape).size a)
    (x : (⟨2, ![r, n]⟩ : Shape).Idx → Elt Ideal e)
    (inb' : ∀ a, (![0, o] : Fin 2 → Nat) a + (![r, w] : Fin 2 → Nat) a ≤ (⟨2, ![r, n]⟩ : Shape).size a) :
    v.readCov [(⟨Rect.unit ![0, 0] (⟨2, ![r, n]⟩ : Shape).size inb, x⟩ : View.Piece (Elt Ideal) _ e)] (Rect.unit ![0, o] ![r, w] inb').toLoadRect
      = fun i : (⟨2, ![r, w]⟩ : Shape).Idx => x (ix2 (i 0) ⟨o + (i 1).val, by have := (i 1).isLt; have h := inb' 1; simp at this h; omega⟩) := by
  rw [View.readCov_eq_canon', View.canon_cons_unit_zero (funext fun a => by revert a; rw [Fin.forall_fin_two]; exact ⟨rfl, rfl⟩)]
  funext i
  refine congrArg x (funext fun a => Fin.ext ?_)
  revert a
  rw [Fin.forall_fin_two]
  constructor
  · show 0 + 1 * (i 0).val = (i 0).val; omega
  · show o + 1 * (i 1).val = o + (i 1).val; omega

theorem read0 {κ : Kind} {sp : Space} (v : View sig κ sp S256x4384 .f32) {w o : Nat} (inb) (x : S256x4384.Idx → Elt Ideal .f32)
    (inb' : ∀ a, (![0, o] : Fin 2 → Nat) a + (![256, w] : Fin 2 → Nat) a ≤ S256x4384.size a) :
    v.readCov [⟨Rect.unit ![0, 0] ![256, 4384] inb, x⟩] (Rect.unit ![0, o] ![256, w] inb').toLoadRect
      = fun i : (⟨2, ![256, w]⟩ : Shape).Idx => x (ix2 (i 0) ⟨o + (i 1).val, by have := (i 1).isLt; have h := inb' 1; simp at this h; omega⟩) :=
  readCov_cols _ _ x inb'

theorem read_rows_cons {κ : Kind} {sp : Space} (v : View sig κ sp S259x2304 .f32) (f : v.ty.Contents (Elt Ideal)) (inb)
    (x : S256x2304.Idx → Elt Ideal .f32) (L : List (View.Piece (Elt Ideal) S259x2304 .f32)) (i : S259x2304.Idx) :
    v.read (Elt Ideal) (v.writes (Elt Ideal) f (⟨Rect.unit ![3, 0] ![256, 2304] inb, x⟩ :: L)) i
      = if h : (i 0).val < 3 then v.read (Elt Ideal) (v.writes (Elt Ideal) f L) i
          else x (ix2 ⟨(i 0).val - 3, by have := (i 0).isLt; simp at this; omega⟩ (i 1)) := by
  split_ifs with h
  · exact View.read_writes_cons_unit_of_not_mem v f inb x L i rfl 0 (Or.inl h)
  · refine View.read_writes_cons_unit_of_mem v f inb x L i (ix2 ⟨(i 0).val - 3, _⟩ (i 1)) rfl fun a => ?_
    revert a
    rw [Fin.forall_fin_two]
    constructor
    · show (i 0).val = 3 + ((i 0).val - 3)
      have : ¬ (i 0).val < 3 := h
      omega
    · show (i 1).val = 0 + (i 1).val; omega

theorem read_rows {κ : Kind} {sp : Space} (v : View sig κ sp S259x2304 .f32) (f : v.ty.Contents (Elt Ideal)) (inb)
    (x : S256x2304.Idx → Elt Ideal .f32) :
    v.read (Elt Ideal) (v.writes (Elt Ideal) f [⟨Rect.unit ![3, 0] ![256, 2304] inb, x⟩])
      = fun i => if h : (i 0).val < 3 then v.read (Elt Ideal) f i
          else x (ix2 ⟨(i 0).val - 3, by have := (i 0).isLt; simp at this; omega⟩ (i 1)) :=
  funext fun i => read_rows_cons v f inb x [] i

theorem read_rows0 {κ : Kind} {sp : Space} (v : View sig κ sp S259x2304 .f32) (inb inb' inb'')
    (x : S256x2304.Idx → Elt Ideal .f32) (z : S3x2304.Idx → Elt Ideal .f32) :
    v.readCov [⟨Rect.unit ![3, 0] ![256, 2304] inb, x⟩, ⟨Rect.unit ![0, 0] ![3, 2304] inb', z⟩] (Rect.unit ![0, 0] ![259, 2304] inb'').toLoadRect
      = fun i : S259x2304.Idx => if h : (i 0).val < 3 then z (ix2 ⟨(i 0).val, h⟩ (i 1))
          else x (ix2 ⟨(i 0).val - 3, by have := (i 0).isLt; simp at this; omega⟩ (i 1)) := by
  have hr : ∀ i : S259x2304.Idx, (Rect.unit (s := S259x2304) ![0, 0] ![259, 2304] inb'').toLoadRect.idx i = i := fun i => by
    refine funext fun a => Fin.ext ?_
    revert a
    rw [Fin.forall_fin_two]
    constructor
    · show 0 + 1 * (i 0).val = (i 0).val; omega
    · show 0 + 1 * (i 1).val = (i 1).val; omega
  funext i
  rw [View.readCov_eq_canon']
  dsimp only
  rw [hr i, ← View.read_writes_junk_apply_eq_canon v, read_rows_cons]
  split_ifs with h
  · refine View.read_writes_cons_unit_of_mem v _ inb' z [] i (ix2 ⟨(i 0).val, h⟩ (i 1)) rfl fun a => ?_
    revert a
    rw [Fin.forall_fin_two]
    constructor
    · show (i 0).val = 0 + (i 0).val; omega
    · show (i 1).val = 0 + (i 1).val; omega
  · rfl

/-- A read of the convolution's buffer at its last three rows. -/
theorem read_last {κ : Kind} {sp : Space} (v : View sig κ sp S259x2304 .f32) (inb inb')
    (x : S256x2304.Idx → Elt Ideal .f32) (L : List (View.Piece (Elt Ideal) S259x2304 .f32)) :
    v.readCov (⟨Rect.unit ![3, 0] ![256, 2304] inb, x⟩ :: L) (Rect.unit ![256, 0] ![3, 2304] inb').toLoadRect
      = fun i : S3x2304.Idx => x (ix2 ⟨253 + (i 0).val, by have := (i 0).isLt; simp at this; omega⟩ (i 1)) := by
  have key : ∀ j : S259x2304.Idx, ∀ h : ¬ (j 0).val < 3,
      View.canon ((⟨Rect.unit ![3, 0] ![256, 2304] inb, x⟩ : View.Piece (Elt Ideal) S259x2304 .f32) :: L) j
        = x (ix2 ⟨(j 0).val - 3, by have := (j 0).isLt; simp at this; omega⟩ (j 1)) := fun j h => by
    rw [← View.read_writes_junk_apply_eq_canon v, read_rows_cons, dif_neg h]
  rw [View.readCov_eq_canon']
  funext i
  refine (key _ (by show ¬ 256 + 1 * (i 0).val < 3; omega)).trans (congrArg x (funext fun a => Fin.ext ?_))
  revert a
  rw [Fin.forall_fin_two]
  constructor
  · show 256 + 1 * (i 0).val - 3 = 253 + (i 0).val; omega
  · show 0 + 1 * (i 1).val = (i 1).val; omega

/-- A whole read of a whole buffer just filled. -/
theorem read_fill {sig : RefSig} {κ : Kind} {sp : Space} {e : EltTy} {r n : Nat} (v : View sig κ sp (⟨2, ![r, n]⟩ : Shape) e) (inb inb')
    (x : (⟨2, ![r, n]⟩ : Shape).Idx → Elt Ideal e) :
    v.readCov [(⟨Rect.unit ![0, 0] (⟨2, ![r, n]⟩ : Shape).size inb, x⟩ : View.Piece (Elt Ideal) _ e)]
      (Rect.unit ![0, 0] (⟨2, ![r, n]⟩ : Shape).size inb').toLoadRect = x := by
  rw [View.readCov_eq_canon', View.canon_cons_unit_zero (funext fun a => by revert a; rw [Fin.forall_fin_two]; exact ⟨rfl, rfl⟩)]
  funext i
  refine congrArg x (funext fun a => Fin.ext ?_)
  revert a
  rw [Fin.forall_fin_two]
  constructor
  · show 0 + 1 * (i 0).val = (i 0).val; omega
  · show 0 + 1 * (i 1).val = (i 1).val; omega

/-- A whole read of an operand's buffer. -/
theorem read_all {e : EltTy} {r n : Nat} (a : Memref sig .tc .vmem (⟨2, ![r, n]⟩ : Shape) e) (h : a.IsWhole)
    (x : Vec Ideal (⟨2, ![r, n]⟩ : Shape) e) (inb) :
    View.readAt (Elt Ideal) a.view (Rect.unit (s := (⟨2, ![r, n]⟩ : Shape)) ![0, 0] (⟨2, ![r, n]⟩ : Shape).size inb).toLoadRect (h.unread x) = x := by
  rw [View.readAt_eq_ld, View.ld_unit_lit' _ _ (fun a => by revert a; rw [Fin.forall_fin_two]; exact ⟨rfl, rfl⟩), Memref.IsWhole.read_unread]

/-- A read of one tap's weights. -/
theorem read_tap (a : Memref sig .tc .vmem S4x2304 .f32) (h : a.IsWhole) (x : Vec Ideal S4x2304 .f32) (k : Nat) (inb) :
    View.readAt (Elt Ideal) a.view (Rect.unit (s := S4x2304) ![k, 0] S1x2304.size inb).toLoadRect (h.unread x) = tap x k inb := by
  rw [View.readAt_eq_ld, Memref.IsWhole.read_unread]
  rfl

/-- A grid point's givens from its blocks. -/
def given (x0 : FVec Ideal S1x256x1024 .f32) (x1 : FVec Ideal S4384x1024 .bf16) (x2 : FVec Ideal S4x2304 .f32)
    (x3 : FVec Ideal S1x2304 .f32) (x4 x5 : FVec Ideal S1x32 .f32) (x6 x7 : FVec Ideal S1x2048 .f32)
    (x8 : FVec Ideal S1024x2048 .bf16) (x9 : FVec Ideal S32x2048 .bf16)
    (prev : FVec Ideal S259x2304 .f32) (st : FVec Ideal S128x2048 .f32) : In :=
  ⟨gateOf (zx x0 x1), dtOf (zx x0 x1), extOf prev (midOf (zx x0 x1)), tap x2 0 (by decide), tap x2 1 (by decide),
    tap x2 2 (by decide), tap x2 3 (by decide), x3, x4, x5, x6, x7, x8, x9, st⟩

theorem inb_head (h : Fin 32) : ∀ a, (![0, 64 * h.val] : Fin 2 → Nat) a + S256x64.size a ≤ S256x2048.size a := by
  revert h; decide

end Cert.Chunk

end
-- ==== Proof.OpenA.lean ====
/- What the body leaves at a batch's start, in the stages of a grid point. -/
module

public import proofs.«01_k».proof.Proof.Reads
public import Idealize.ShloMosaic.Lib.Pipeline.ReadBack
public import Idealize.ShloMosaic.Lib.WritesUnit

@[expose] public section

set_option maxRecDepth 16384

noncomputable section

namespace Cert.Chunk

open Idealize.ShloMosaic Idealize.ShloMosaic.TcCoe Idealize.SL.Sem
open Cert.KernelIdeal Cert.KernelIdeal.Gen

open Cert.KernelIdeal.Gen.kernelRun0_A

variable (c : Dev nD) (i : grid0.Coords)
  (a2 : Memref sig .tc .vmem S1x256x1024 .f32) (h2 : a2.IsWhole)
  (a3 : Memref sig .tc .vmem S4384x1024 .bf16) (h3 : a3.IsWhole)
  (a4 : Memref sig .tc .vmem S4x2304 .f32) (h4 : a4.IsWhole)
  (a5 : Memref sig .tc .vmem S1x2304 .f32) (h5 : a5.IsWhole)
  (a6 : Memref sig .tc .vmem S1x32 .f32) (h6 : a6.IsWhole)
  (a7 : Memref sig .tc .vmem S1x32 .f32) (h7 : a7.IsWhole)
  (a8 : Memref sig .tc .vmem S1x2048 .f32) (h8 : a8.IsWhole)
  (a9 : Memref sig .tc .vmem S1x2048 .f32) (h9 : a9.IsWhole)
  (a10 : Memref sig .tc .vmem S1024x2048 .bf16) (h10 : a10.IsWhole)
  (a11 : Memref sig .tc .vmem S32x2048 .bf16) (h11 : a11.IsWhole)
  (a12 : Memref sig .tc .vmem S1x256x1024 .f32) (h12 : a12.IsWhole)
  (a13 : Memref sig .tc .vmem S256x4384 .f32) (h13 : a13.IsWhole)
  (a14 : Memref sig .tc .vmem S259x2304 .f32) (h14 : a14.IsWhole)
  (a15 : Memref sig .tc .vmem S128x2048 .f32) (h15 : a15.IsWhole)
  (a16 : Memref sig .tc .vmem S256x2048 .f32) (h16 : a16.IsWhole)
  (hc0 : cond0_0 i)
  (x0 : Vec Ideal S1x256x1024 .f32)
  (x1 : Vec Ideal S4384x1024 .bf16)
  (x2 : Vec Ideal S4x2304 .f32)
  (x3 : Vec Ideal S1x2304 .f32)
  (x4 : Vec Ideal S1x32 .f32)
  (x5 : Vec Ideal S1x32 .f32)
  (x6 : Vec Ideal S1x2048 .f32)
  (x7 : Vec Ideal S1x2048 .f32)
  (x8 : Vec Ideal S1024x2048 .bf16)
  (x9 : Vec Ideal S32x2048 .bf16)

/-- The point's givens as the body reads them. -/
def rawA : In :=
  ⟨sl.v481 (F := Ideal) c a2 h2 a3 h3 a13 x0 x1, sl.v58 (F := Ideal) c a2 h2 a3 h3 a13 x0 x1, sl.v16 (F := Ideal) c a2 h2 a3 h3 a13 a14 x0 x1,
    View.readAt (Elt Ideal) a4.view (Rect.unit (s := S4x2304) ![0, 0] S1x2304.size inb_S4x2304_S1x2304_0_0).toLoadRect (h4.unread x2),
    View.readAt (Elt Ideal) a4.view (Rect.unit (s := S4x2304) ![1, 0] S1x2304.size inb_S4x2304_S1x2304_1_0).toLoadRect (h4.unread x2),
    View.readAt (Elt Ideal) a4.view (Rect.unit (s := S4x2304) ![2, 0] S1x2304.size inb_S4x2304_S1x2304_2_0).toLoadRect (h4.unread x2),
    View.readAt (Elt Ideal) a4.view (Rect.unit (s := S4x2304) ![3, 0] S1x2304.size inb_S4x2304_S1x2304_3_0).toLoadRect (h4.unread x2),
    View.readAt (Elt Ideal) a5.view (Rect.unit (s := S1x2304) ![0, 0] S1x2304.size inb_S1x2304_S1x2304_0_0).toLoadRect (h5.unread x3),
    View.readAt (Elt Ideal) a6.view (Rect.unit (s := S1x32) ![0, 0] S1x32.size inb_S1x32_S1x32_0_0).toLoadRect (h6.unread x4),
    View.readAt (Elt Ideal) a7.view (Rect.unit (s := S1x32) ![0, 0] S1x32.size inb_S1x32_S1x32_0_0).toLoadRect (h7.unread x5),
    View.readAt (Elt Ideal) a8.view (Rect.unit (s := S1x2048) ![0, 0] S1x2048.size inb_S1x2048_S1x2048_0_0).toLoadRect (h8.unread x6),
    View.readAt (Elt Ideal) a9.view (Rect.unit (s := S1x2048) ![0, 0] S1x2048.size inb_S1x2048_S1x2048_0_0).toLoadRect (h9.unread x7),
    View.readAt (Elt Ideal) a10.view (Rect.unit (s := S1024x2048) ![0, 0] S1024x2048.size inb_S1024x2048_S1024x2048_0_0).toLoadRect (h10.unread x8),
    View.readAt (Elt Ideal) a11.view (Rect.unit (s := S32x2048) ![0, 0] S32x2048.size inb_S32x2048_S32x2048_0_0).toLoadRect (h11.unread x9),
    sl.v460 (F := Ideal) c a15⟩

/-- The heads' inputs as the body reads them back. -/
def usA (h : Fin 32) : FVec Ideal S256x64 .f32 :=
  a16.view.readCov (sl.HS3_1 (F := Ideal) c a2 h2 a3 h3 a4 h4 a5 h5 a6 h6 a11 h11 a13 a14 x0 x1 x2 x3 x4 x9) (Rect.unit (s := S256x2048) ![0, 64 * h.val] S256x64.size (inb_head h)).toLoadRect

theorem hs3_A : sl.HS3_1 (F := Ideal) c a2 h2 a3 h3 a4 h4 a5 h5 a6 h6 a11 h11 a13 a14 x0 x1 x2 x3 x4 x9 = [⟨Rect.unit (s := S256x2048) ![0, 0] S256x2048.size inb_S256x2048_S256x2048_0_0,
    xdt (rawA c a2 h2 a3 h3 a4 h4 a5 h5 a6 h6 a7 h7 a8 h8 a9 h9 a10 h10 a11 h11 a13 a14 a15 x0 x1 x2 x3 x4 x5 x6 x7 x8 x9)⟩] := by sl_kernel_rfl

/-- The block written out, the two writes of the carried rows and the write of the carried state. -/
theorem out_list_A : (kernelRun0_A (F := Ideal) c i a2 h2 a3 h3 a4 h4 a5 h5 a6 h6 a7 h7 a8 h8 a9 h9 a10 h10 a11 h11 a12 h12 a13 h13 a14 h14 a15 h15 a16 h16 hc0 x0 x1 x2 x3 x4 x5 x6 x7 x8 x9).1
    = [⟨Rect.unit (s := S1x256x1024) ![0, 0, 0] S1x256x1024.size inb_S1x256x1024_S1x256x1024_0_0_0, out (rawA c a2 h2 a3 h3 a4 h4 a5 h5 a6 h6 a7 h7 a8 h8 a9 h9 a10 h10 a11 h11 a13 a14 a15 x0 x1 x2 x3 x4 x5 x6 x7 x8 x9) (usA c a2 h2 a3 h3 a4 h4 a5 h5 a6 h6 a11 h11 a13 a14 a16 x0 x1 x2 x3 x4 x9)⟩] := by sl_kernel_rfl
theorem rows_list_A : (kernelRun0_A (F := Ideal) c i a2 h2 a3 h3 a4 h4 a5 h5 a6 h6 a7 h7 a8 h8 a9 h9 a10 h10 a11 h11 a12 h12 a13 h13 a14 h14 a15 h15 a16 h16 hc0 x0 x1 x2 x3 x4 x5 x6 x7 x8 x9).2.1
    = [⟨Rect.unit (s := S259x2304) ![0, 0] S3x2304.size inb_S259x2304_S3x2304_0_0, sl.v54 (F := Ideal) c a2 h2 a3 h3 a13 a14 x0 x1⟩,
      ⟨Rect.unit (s := S259x2304) ![3, 0] S256x2304.size inb_S259x2304_S256x2304_3_0, sl.v15 (F := Ideal) c a2 h2 a3 h3 a13 x0 x1⟩, ⟨Rect.unit (s := S259x2304) ![0, 0] ![3, 2304] inb_S259x2304_S3x2304_0_0, sl.v510 (F := Ideal)⟩] := by sl_kernel_rfl
theorem st_list_A : (kernelRun0_A (F := Ideal) c i a2 h2 a3 h3 a4 h4 a5 h5 a6 h6 a7 h7 a8 h8 a9 h9 a10 h10 a11 h11 a12 h12 a13 h13 a14 h14 a15 h15 a16 h16 hc0 x0 x1 x2 x3 x4 x5 x6 x7 x8 x9).2.2.1
    = ⟨Rect.unit (s := S128x2048) ![0, 0] S128x2048.size inb_S128x2048_S128x2048_0_0, stNext (rawA c a2 h2 a3 h3 a4 h4 a5 h5 a6 h6 a7 h7 a8 h8 a9 h9 a10 h10 a11 h11 a13 a14 a15 x0 x1 x2 x3 x4 x5 x6 x7 x8 x9) (sl.v470 c a2 h2 a3 h3 a4 h4 a5 h5 a6 h6 a11 h11 a13 a14 a16 x0 x1 x2 x3 x4 x9)⟩ :: sl.HS2_1 (F := Ideal) := by sl_kernel_rfl

theorem zx_A : sl.v8 (F := Ideal) c a2 h2 a3 h3 x0 x1 = zx x0 x1 := by
  unfold sl.v8 sl.v5 sl.v2 sl.v1 sl.v4 sl.cst
  rw [View.readAt_eq_ld, View.readAt_eq_ld, View.ld_unit_lit' _ _ (fun a => by revert a; decide), View.ld_unit_lit' _ _ (fun a => by revert a; decide),
    Memref.IsWhole.read_unread, Memref.IsWhole.read_unread]
  rfl

theorem hs0_A : sl.HS0_1 (F := Ideal) c a2 h2 a3 h3 x0 x1 = [⟨Rect.unit (s := S256x4384) ![0, 0] S256x4384.size inb_S256x4384_S256x4384_0_0, zx x0 x1⟩] := by
  unfold sl.HS0_1
  rw [zx_A]

theorem mid_A : sl.v15 (F := Ideal) c a2 h2 a3 h3 a13 x0 x1 = midOf (zx x0 x1) := by
  unfold sl.v15 sl.v12
  rw [shapeCast_self, hs0_A]
  exact readCov_cols (r := 256) (n := 4384) (w := 2304) (o := 2048) a13.view _ _ inb_S256x4384_S256x2304_0_2048

theorem gate_A : sl.v481 (F := Ideal) c a2 h2 a3 h3 a13 x0 x1 = gateOf (zx x0 x1) := by
  unfold sl.v481
  rw [hs0_A]
  exact readCov_cols (r := 256) (n := 4384) (w := 2048) (o := 0) a13.view _ _ inb_S256x4384_S256x2048_0_0

theorem dt_A : sl.v58 (F := Ideal) c a2 h2 a3 h3 a13 x0 x1 = dtOf (zx x0 x1) := by
  unfold sl.v58
  rw [hs0_A]
  exact readCov_cols (r := 256) (n := 4384) (w := 32) (o := 4352) a13.view _ _ inb_S256x4384_S256x32_0_4352

theorem top_A : sl.v510 (F := Ideal) = fun _ => zero32 := by
  unfold sl.v510
  rw [shapeCast_self]
  rfl

theorem ext_A : sl.v16 (F := Ideal) c a2 h2 a3 h3 a13 a14 x0 x1 = extOf (fun _ => zero32) (midOf (zx x0 x1)) := by
  unfold sl.v16 sl.HS1_2
  rw [mid_A, top_A]
  exact read_rows0 a14.view _ _ inb_S259x2304_S259x2304_0_0 _ _

theorem st_A : sl.v460 (F := Ideal) c a15 = fun _ => zero32 := by
  have h : sl.v514 (F := Ideal) = fun _ => zero32 := by
    unfold sl.v514
    rw [shapeCast_self]
    rfl
  unfold sl.v460 sl.HS2_1
  rw [h]
  exact read_fill (r := 128) (n := 2048) a15.view _ _ _

theorem raw_A : (rawA c a2 h2 a3 h3 a4 h4 a5 h5 a6 h6 a7 h7 a8 h8 a9 h9 a10 h10 a11 h11 a13 a14 a15 x0 x1 x2 x3 x4 x5 x6 x7 x8 x9) = (given x0 x1 x2 x3 x4 x5 x6 x7 x8 x9 (fun _ => zero32) (fun _ => zero32)) := by
  unfold rawA given
  rw [gate_A, dt_A, ext_A, st_A, read_tap a4 h4, read_tap a4 h4, read_tap a4 h4, read_tap a4 h4, read_all a5 h5, read_all a6 h6, read_all a7 h7,
    read_all a8 h8, read_all a9 h9, read_all a10 h10, read_all a11 h11]
  rfl

theorem us_A : (usA c a2 h2 a3 h3 a4 h4 a5 h5 a6 h6 a11 h11 a13 a14 a16 x0 x1 x2 x3 x4 x9) = cols (xdt (rawA c a2 h2 a3 h3 a4 h4 a5 h5 a6 h6 a7 h7 a8 h8 a9 h9 a10 h10 a11 h11 a13 a14 a15 x0 x1 x2 x3 x4 x5 x6 x7 x8 x9)) := by
  funext h
  unfold usA
  rw [hs3_A]
  exact readCov_cols (r := 256) (n := 2048) (w := 64) (o := 64 * h.val) a16.view _ _ (inb_head h)

theorem uw_A : sl.v470 c a2 h2 a3 h3 a4 h4 a5 h5 a6 h6 a11 h11 a13 a14 a16 x0 x1 x2 x3 x4 x9 = xdt (rawA c a2 h2 a3 h3 a4 h4 a5 h5 a6 h6 a7 h7 a8 h8 a9 h9 a10 h10 a11 h11 a13 a14 a15 x0 x1 x2 x3 x4 x5 x6 x7 x8 x9) := by
  unfold sl.v470
  rw [hs3_A]
  exact read_fill (r := 256) (n := 2048) a16.view _ _ _

theorem last_A : sl.v54 (F := Ideal) c a2 h2 a3 h3 a13 a14 x0 x1 = fun i : S3x2304.Idx => midOf (zx x0 x1) (ix2 ⟨253 + (i 0).val, by have := (i 0).isLt; simp at this; omega⟩ (i 1)) := by
  unfold sl.v54 sl.v51 sl.HS1_2
  rw [shapeCast_self, mid_A]
  exact read_last a14.view _ inb_S259x2304_S3x2304_256_0 _ _

/-- The block written out. -/
theorem out_A : out0_A_10 (F := Ideal) c i a2 h2 a3 h3 a4 h4 a5 h5 a6 h6 a7 h7 a8 h8 a9 h9 a10 h10 a11 h11 a12 h12 a13 h13 a14 h14 a15 h15 a16 h16 hc0 x0 x1 x2 x3 x4 x5 x6 x7 x8 x9 = out (given x0 x1 x2 x3 x4 x5 x6 x7 x8 x9 (fun _ => zero32) (fun _ => zero32)) (cols (xdt (given x0 x1 x2 x3 x4 x5 x6 x7 x8 x9 (fun _ => zero32) (fun _ => zero32)))) := by
  unfold out0_A_10
  rw [View.read_writes_junk_eq_canon, out_list_A, us_A c a2 h2 a3 h3 a4 h4 a5 h5 a6 h6 a7 h7 a8 h8 a9 h9 a10 h10 a11 h11 a13 a14 a15 a16 x0 x1 x2 x3 x4 x5 x6 x7 x8 x9, raw_A]
  exact View.canon_cons_unit_lit' _ _ _ (fun a : Fin 3 => by revert a; decide)

/-- The carried state. -/
theorem state_A : sout0_A_2 (F := Ideal) c i a2 h2 a3 h3 a4 h4 a5 h5 a6 h6 a7 h7 a8 h8 a9 h9 a10 h10 a11 h11 a12 h12 a13 h13 a14 h14 a15 h15 a16 h16 hc0 x0 x1 x2 x3 x4 x5 x6 x7 x8 x9 = stNext (given x0 x1 x2 x3 x4 x5 x6 x7 x8 x9 (fun _ => zero32) (fun _ => zero32)) (xdt (given x0 x1 x2 x3 x4 x5 x6 x7 x8 x9 (fun _ => zero32) (fun _ => zero32))) := by
  unfold sout0_A_2
  rw [View.read_writes_junk_eq_canon, st_list_A, uw_A c a2 h2 a3 h3 a4 h4 a5 h5 a6 h6 a7 h7 a8 h8 a9 h9 a10 h10 a11 h11 a13 a14 a15 a16 x0 x1 x2 x3 x4 x5 x6 x7 x8 x9, raw_A]
  exact View.canon_cons_unit_lit' _ _ _ (fun a : Fin 2 => by revert a; decide)

/-- The carried rows. -/
theorem rows_A (r : Fin 259) (hr : r.val < 3) (ch : Fin 2304) :
    sout0_A_1 (F := Ideal) c i a2 h2 a3 h3 a4 h4 a5 h5 a6 h6 a7 h7 a8 h8 a9 h9 a10 h10 a11 h11 a12 h12 a13 h13 a14 h14 a15 h15 a16 h16 hc0 x0 x1 x2 x3 x4 x5 x6 x7 x8 x9 (ix2 r ch) = midOf (zx x0 x1) (ix2 ⟨253 + r.val, by omega⟩ ch) := by
  unfold sout0_A_1
  rw [rows_list_A, last_A]
  refine (View.read_writes_cons_unit_of_mem VS0_1 _ inb_S259x2304_S3x2304_0_0 _ _ (ix2 r ch) (ix2 (n0 := 3) ⟨r.val, hr⟩ ch) rfl fun a => ?_).trans rfl
  revert a
  rw [Fin.forall_fin_two]
  constructor
  · show r.val = 0 + r.val; omega
  · show ch.val = 0 + ch.val; omega

end Cert.Chunk

end
-- ==== Proof.OpenB.lean ====
/- What the body leaves away from a batch's start, in the stages of a grid point. -/
module

public import proofs.«01_k».proof.Proof.Reads
public import Idealize.ShloMosaic.Lib.Pipeline.ReadBack
public import Idealize.ShloMosaic.Lib.WritesUnit

@[expose] public section

set_option maxRecDepth 16384

noncomputable section

namespace Cert.Chunk

open Idealize.ShloMosaic Idealize.ShloMosaic.TcCoe Idealize.SL.Sem
open Cert.KernelIdeal Cert.KernelIdeal.Gen

open Cert.KernelIdeal.Gen.kernelRun0_B

variable (c : Dev nD) (i : grid0.Coords)
  (a2 : Memref sig .tc .vmem S1x256x1024 .f32) (h2 : a2.IsWhole)
  (a3 : Memref sig .tc .vmem S4384x1024 .bf16) (h3 : a3.IsWhole)
  (a4 : Memref sig .tc .vmem S4x2304 .f32) (h4 : a4.IsWhole)
  (a5 : Memref sig .tc .vmem S1x2304 .f32) (h5 : a5.IsWhole)
  (a6 : Memref sig .tc .vmem S1x32 .f32) (h6 : a6.IsWhole)
  (a7 : Memref sig .tc .vmem S1x32 .f32) (h7 : a7.IsWhole)
  (a8 : Memref sig .tc .vmem S1x2048 .f32) (h8 : a8.IsWhole)
  (a9 : Memref sig .tc .vmem S1x2048 .f32) (h9 : a9.IsWhole)
  (a10 : Memref sig .tc .vmem S1024x2048 .bf16) (h10 : a10.IsWhole)
  (a11 : Memref sig .tc .vmem S32x2048 .bf16) (h11 : a11.IsWhole)
  (a12 : Memref sig .tc .vmem S1x256x1024 .f32) (h12 : a12.IsWhole)
  (a13 : Memref sig .tc .vmem S256x4384 .f32) (h13 : a13.IsWhole)
  (a14 : Memref sig .tc .vmem S259x2304 .f32) (h14 : a14.IsWhole)
  (a15 : Memref sig .tc .vmem S128x2048 .f32) (h15 : a15.IsWhole)
  (a16 : Memref sig .tc .vmem S256x2048 .f32) (h16 : a16.IsWhole)
  (hc0 : ¬cond0_0 i)
  (x0 : Vec Ideal S1x256x1024 .f32)
  (x1 : Vec Ideal S4384x1024 .bf16)
  (x2 : Vec Ideal S4x2304 .f32)
  (x3 : Vec Ideal S1x2304 .f32)
  (x4 : Vec Ideal S1x32 .f32)
  (x5 : Vec Ideal S1x32 .f32)
  (x6 : Vec Ideal S1x2048 .f32)
  (x7 : Vec Ideal S1x2048 .f32)
  (x8 : Vec Ideal S1024x2048 .bf16)
  (x9 : Vec Ideal S32x2048 .bf16)
  (xs1 : Vec Ideal S259x2304 .f32) (xs2 : Vec Ideal S128x2048 .f32)

/-- The point's givens as the body reads them. -/
def rawB : In :=
  ⟨sl.v481 (F := Ideal) c a2 h2 a3 h3 a13 x0 x1, sl.v58 (F := Ideal) c a2 h2 a3 h3 a13 x0 x1, sl.r (F := Ideal) c a2 h2 a3 h3 a13 a14 h14 x0 x1 xs1,
    View.readAt (Elt Ideal) a4.view (Rect.unit (s := S4x2304) ![0, 0] S1x2304.size inb_S4x2304_S1x2304_0_0).toLoadRect (h4.unread x2),
    View.readAt (Elt Ideal) a4.view (Rect.unit (s := S4x2304) ![1, 0] S1x2304.size inb_S4x2304_S1x2304_1_0).toLoadRect (h4.unread x2),
    View.readAt (Elt Ideal) a4.view (Rect.unit (s := S4x2304) ![2, 0] S1x2304.size inb_S4x2304_S1x2304_2_0).toLoadRect (h4.unread x2),
    View.readAt (Elt Ideal) a4.view (Rect.unit (s := S4x2304) ![3, 0] S1x2304.size inb_S4x2304_S1x2304_3_0).toLoadRect (h4.unread x2),
    View.readAt (Elt Ideal) a5.view (Rect.unit (s := S1x2304) ![0, 0] S1x2304.size inb_S1x2304_S1x2304_0_0).toLoadRect (h5.unread x3),
    View.readAt (Elt Ideal) a6.view (Rect.unit (s := S1x32) ![0, 0] S1x32.size inb_S1x32_S1x32_0_0).toLoadRect (h6.unread x4),
    View.readAt (Elt Ideal) a7.view (Rect.unit (s := S1x32) ![0, 0] S1x32.size inb_S1x32_S1x32_0_0).toLoadRect (h7.unread x5),
    View.readAt (Elt Ideal) a8.view (Rect.unit (s := S1x2048) ![0, 0] S1x2048.size inb_S1x2048_S1x2048_0_0).toLoadRect (h8.unread x6),
    View.readAt (Elt Ideal) a9.view (Rect.unit (s := S1x2048) ![0, 0] S1x2048.size inb_S1x2048_S1x2048_0_0).toLoadRect (h9.unread x7),
    View.readAt (Elt Ideal) a10.view (Rect.unit (s := S1024x2048) ![0, 0] S1024x2048.size inb_S1024x2048_S1024x2048_0_0).toLoadRect (h10.unread x8),
    View.readAt (Elt Ideal) a11.view (Rect.unit (s := S32x2048) ![0, 0] S32x2048.size inb_S32x2048_S32x2048_0_0).toLoadRect (h11.unread x9),
    View.readAt (Elt Ideal) a15.view (Rect.unit (s := S128x2048) ![0, 0] S128x2048.size inb_S128x2048_S128x2048_0_0).toLoadRect (h15.unread xs2)⟩

/-- The heads' inputs as the body reads them back. -/
def usB (h : Fin 32) : FVec Ideal S256x64 .f32 :=
  a16.view.readCov (sl.HS3_1 (F := Ideal) c a2 h2 a3 h3 a4 h4 a5 h5 a6 h6 a11 h11 a13 a14 h14 x0 x1 x2 x3 x4 x9 xs1) (Rect.unit (s := S256x2048) ![0, 64 * h.val] S256x64.size (inb_head h)).toLoadRect

theorem hs3_B : sl.HS3_1 (F := Ideal) c a2 h2 a3 h3 a4 h4 a5 h5 a6 h6 a11 h11 a13 a14 h14 x0 x1 x2 x3 x4 x9 xs1 = [⟨Rect.unit (s := S256x2048) ![0, 0] S256x2048.size inb_S256x2048_S256x2048_0_0,
    xdt (rawB c a2 h2 a3 h3 a4 h4 a5 h5 a6 h6 a7 h7 a8 h8 a9 h9 a10 h10 a11 h11 a13 a14 h14 a15 h15 x0 x1 x2 x3 x4 x5 x6 x7 x8 x9 xs1 xs2)⟩] := by sl_kernel_rfl

/-- The block written out, the two writes of the carried rows and the write of the carried state. -/
theorem out_list_B : (kernelRun0_B (F := Ideal) c i a2 h2 a3 h3 a4 h4 a5 h5 a6 h6 a7 h7 a8 h8 a9 h9 a10 h10 a11 h11 a12 h12 a13 h13 a14 h14 a15 h15 a16 h16 hc0 x0 x1 x2 x3 x4 x5 x6 x7 x8 x9 xs1 xs2).1
    = [⟨Rect.unit (s := S1x256x1024) ![0, 0, 0] S1x256x1024.size inb_S1x256x1024_S1x256x1024_0_0_0, out (rawB c a2 h2 a3 h3 a4 h4 a5 h5 a6 h6 a7 h7 a8 h8 a9 h9 a10 h10 a11 h11 a13 a14 h14 a15 h15 x0 x1 x2 x3 x4 x5 x6 x7 x8 x9 xs1 xs2) (usB c a2 h2 a3 h3 a4 h4 a5 h5 a6 h6 a11 h11 a13 a14 h14 a16 x0 x1 x2 x3 x4 x9 xs1)⟩] := by sl_kernel_rfl
theorem rows_list_B : (kernelRun0_B (F := Ideal) c i a2 h2 a3 h3 a4 h4 a5 h5 a6 h6 a7 h7 a8 h8 a9 h9 a10 h10 a11 h11 a12 h12 a13 h13 a14 h14 a15 h15 a16 h16 hc0 x0 x1 x2 x3 x4 x5 x6 x7 x8 x9 xs1 xs2).2.1
    = [⟨Rect.unit (s := S259x2304) ![0, 0] S3x2304.size inb_S259x2304_S3x2304_0_0, sl.v54 (F := Ideal) c a2 h2 a3 h3 a13 a14 x0 x1⟩,
      ⟨Rect.unit (s := S259x2304) ![3, 0] S256x2304.size inb_S259x2304_S256x2304_3_0, sl.v15 (F := Ideal) c a2 h2 a3 h3 a13 x0 x1⟩] := by sl_kernel_rfl
theorem st_list_B : (kernelRun0_B (F := Ideal) c i a2 h2 a3 h3 a4 h4 a5 h5 a6 h6 a7 h7 a8 h8 a9 h9 a10 h10 a11 h11 a12 h12 a13 h13 a14 h14 a15 h15 a16 h16 hc0 x0 x1 x2 x3 x4 x5 x6 x7 x8 x9 xs1 xs2).2.2.1
    = ⟨Rect.unit (s := S128x2048) ![0, 0] S128x2048.size inb_S128x2048_S128x2048_0_0, stNext (rawB c a2 h2 a3 h3 a4 h4 a5 h5 a6 h6 a7 h7 a8 h8 a9 h9 a10 h10 a11 h11 a13 a14 h14 a15 h15 x0 x1 x2 x3 x4 x5 x6 x7 x8 x9 xs1 xs2) (sl.v470 c a2 h2 a3 h3 a4 h4 a5 h5 a6 h6 a11 h11 a13 a14 h14 a16 x0 x1 x2 x3 x4 x9 xs1)⟩ :: [] := by sl_kernel_rfl

theorem zx_B : sl.v8 (F := Ideal) c a2 h2 a3 h3 x0 x1 = zx x0 x1 := by
  unfold sl.v8 sl.v5 sl.v2 sl.v1 sl.v4 sl.cst
  rw [View.readAt_eq_ld, View.readAt_eq_ld, View.ld_unit_lit' _ _ (fun a => by revert a; decide), View.ld_unit_lit' _ _ (fun a => by revert a; decide),
    Memref.IsWhole.read_unread, Memref.IsWhole.read_unread]
  rfl

theorem hs0_B : sl.HS0_1 (F := Ideal) c a2 h2 a3 h3 x0 x1 = [⟨Rect.unit (s := S256x4384) ![0, 0] S256x4384.size inb_S256x4384_S256x4384_0_0, zx x0 x1⟩] := by
  unfold sl.HS0_1
  rw [zx_B]

theorem mid_B : sl.v15 (F := Ideal) c a2 h2 a3 h3 a13 x0 x1 = midOf (zx x0 x1) := by
  unfold sl.v15 sl.v12
  rw [shapeCast_self, hs0_B]
  exact readCov_cols (r := 256) (n := 4384) (w := 2304) (o := 2048) a13.view _ _ inb_S256x4384_S256x2304_0_2048

theorem gate_B : sl.v481 (F := Ideal) c a2 h2 a3 h3 a13 x0 x1 = gateOf (zx x0 x1) := by
  unfold sl.v481
  rw [hs0_B]
  exact readCov_cols (r := 256) (n := 4384) (w := 2048) (o := 0) a13.view _ _ inb_S256x4384_S256x2048_0_0

theorem dt_B : sl.v58 (F := Ideal) c a2 h2 a3 h3 a13 x0 x1 = dtOf (zx x0 x1) := by
  unfold sl.v58
  rw [hs0_B]
  exact readCov_cols (r := 256) (n := 4384) (w := 32) (o := 4352) a13.view _ _ inb_S256x4384_S256x32_0_4352

theorem ext_B : sl.r (F := Ideal) c a2 h2 a3 h3 a13 a14 h14 x0 x1 xs1 = extOf xs1 (midOf (zx x0 x1)) := by
  show View.readAt (Elt Ideal) a14.view (Rect.unit (s := S259x2304) ![0, 0] S259x2304.size inb_S259x2304_S259x2304_0_0).toLoadRect
    (a14.view.writes (Elt Ideal) (h14.unread xs1) [⟨Rect.unit (s := S259x2304) ![3, 0] ![256, 2304] inb_S259x2304_S256x2304_3_0, sl.v15 (F := Ideal) c a2 h2 a3 h3 a13 x0 x1⟩]) = _
  rw [mid_B, View.readAt_eq_ld, View.ld_unit_lit' _ _ (fun a => by revert a; rw [Fin.forall_fin_two]; exact ⟨rfl, rfl⟩), read_rows,
    Memref.IsWhole.read_unread]
  rfl

theorem raw_B : (rawB c a2 h2 a3 h3 a4 h4 a5 h5 a6 h6 a7 h7 a8 h8 a9 h9 a10 h10 a11 h11 a13 a14 h14 a15 h15 x0 x1 x2 x3 x4 x5 x6 x7 x8 x9 xs1 xs2) = (given x0 x1 x2 x3 x4 x5 x6 x7 x8 x9 xs1 xs2) := by
  unfold rawB given
  rw [gate_B, dt_B, ext_B, read_tap a4 h4, read_tap a4 h4, read_tap a4 h4, read_tap a4 h4, read_all a5 h5, read_all a6 h6, read_all a7 h7,
    read_all a8 h8, read_all a9 h9, read_all a10 h10, read_all a11 h11, read_all a15 h15]

theorem us_B : (usB c a2 h2 a3 h3 a4 h4 a5 h5 a6 h6 a11 h11 a13 a14 h14 a16 x0 x1 x2 x3 x4 x9 xs1) = cols (xdt (rawB c a2 h2 a3 h3 a4 h4 a5 h5 a6 h6 a7 h7 a8 h8 a9 h9 a10 h10 a11 h11 a13 a14 h14 a15 h15 x0 x1 x2 x3 x4 x5 x6 x7 x8 x9 xs1 xs2)) := by
  funext h
  unfold usB
  rw [hs3_B]
  exact readCov_cols (r := 256) (n := 2048) (w := 64) (o := 64 * h.val) a16.view _ _ (inb_head h)

theorem uw_B : sl.v470 c a2 h2 a3 h3 a4 h4 a5 h5 a6 h6 a11 h11 a13 a14 h14 a16 x0 x1 x2 x3 x4 x9 xs1 = xdt (rawB c a2 h2 a3 h3 a4 h4 a5 h5 a6 h6 a7 h7 a8 h8 a9 h9 a10 h10 a11 h11 a13 a14 h14 a15 h15 x0 x1 x2 x3 x4 x5 x6 x7 x8 x9 xs1 xs2) := by
  unfold sl.v470
  rw [hs3_B]
  exact read_fill (r := 256) (n := 2048) a16.view _ _ _

theorem last_B : sl.v54 (F := Ideal) c a2 h2 a3 h3 a13 a14 x0 x1 = fun i : S3x2304.Idx => midOf (zx x0 x1) (ix2 ⟨253 + (i 0).val, by have := (i 0).isLt; simp at this; omega⟩ (i 1)) := by
  unfold sl.v54 sl.v51 sl.HS1_1
  rw [shapeCast_self, mid_B]
  exact read_last a14.view _ inb_S259x2304_S3x2304_256_0 _ _

/-- The block written out. -/
theorem out_B : out0_B_10 (F := Ideal) c i a2 h2 a3 h3 a4 h4 a5 h5 a6 h6 a7 h7 a8 h8 a9 h9 a10 h10 a11 h11 a12 h12 a13 h13 a14 h14 a15 h15 a16 h16 hc0 x0 x1 x2 x3 x4 x5 x6 x7 x8 x9 xs1 xs2 = out (given x0 x1 x2 x3 x4 x5 x6 x7 x8 x9 xs1 xs2) (cols (xdt (given x0 x1 x2 x3 x4 x5 x6 x7 x8 x9 xs1 xs2))) := by
  unfold out0_B_10
  rw [View.read_writes_junk_eq_canon, out_list_B, us_B c a2 h2 a3 h3 a4 h4 a5 h5 a6 h6 a7 h7 a8 h8 a9 h9 a10 h10 a11 h11 a13 a14 h14 a15 h15 a16 x0 x1 x2 x3 x4 x5 x6 x7 x8 x9 xs1 xs2, raw_B]
  exact View.canon_cons_unit_lit' _ _ _ (fun a : Fin 3 => by revert a; decide)

/-- The carried state. -/
theorem state_B : sout0_B_2 (F := Ideal) c i a2 h2 a3 h3 a4 h4 a5 h5 a6 h6 a7 h7 a8 h8 a9 h9 a10 h10 a11 h11 a12 h12 a13 h13 a14 h14 a15 h15 a16 h16 hc0 x0 x1 x2 x3 x4 x5 x6 x7 x8 x9 xs1 xs2 = stNext (given x0 x1 x2 x3 x4 x5 x6 x7 x8 x9 xs1 xs2) (xdt (given x0 x1 x2 x3 x4 x5 x6 x7 x8 x9 xs1 xs2)) := by
  unfold sout0_B_2
  rw [View.read_writes_junk_eq_canon, st_list_B, uw_B c a2 h2 a3 h3 a4 h4 a5 h5 a6 h6 a7 h7 a8 h8 a9 h9 a10 h10 a11 h11 a13 a14 h14 a15 h15 a16 x0 x1 x2 x3 x4 x5 x6 x7 x8 x9 xs1 xs2, raw_B]
  exact View.canon_cons_unit_lit' _ _ _ (fun a : Fin 2 => by revert a; decide)

/-- The carried rows. -/
theorem rows_B (r : Fin 259) (hr : r.val < 3) (ch : Fin 2304) :
    sout0_B_1 (F := Ideal) c i a2 h2 a3 h3 a4 h4 a5 h5 a6 h6 a7 h7 a8 h8 a9 h9 a10 h10 a11 h11 a12 h12 a13 h13 a14 h14 a15 h15 a16 h16 hc0 x0 x1 x2 x3 x4 x5 x6 x7 x8 x9 xs1 xs2 (ix2 r ch) = midOf (zx x0 x1) (ix2 ⟨253 + r.val, by omega⟩ ch) := by
  unfold sout0_B_1
  rw [rows_list_B, last_B]
  refine (View.read_writes_cons_unit_of_mem VS0_1 _ inb_S259x2304_S3x2304_0_0 _ _ (ix2 r ch) (ix2 (n0 := 3) ⟨r.val, hr⟩ ch) rfl fun a => ?_).trans rfl
  revert a
  rw [Fin.forall_fin_two]
  constructor
  · show r.val = 0 + r.val; omega
  · show ch.val = 0 + ch.val; omega

end Cert.Chunk

end
-- ==== Proof.Stages.lean ====
/- The stages of a grid point, element by element. -/
module

public import proofs.«01_k».proof.Proof.Reads

@[expose] public section

set_option maxRecDepth 16384

noncomputable section

namespace Cert.Chunk

open Idealize.ShloMosaic Idealize.ShloMosaic.TcCoe Idealize.SL.Sem
open Cert.KernelIdeal Cert.KernelIdeal.Gen

theorem zx_at (x : FVec Ideal S1x256x1024 .f32) (W : FVec Ideal S4384x1024 .bf16) (r : Fin 256) (e : Fin 4384) :
    zx x W (ix2 r e) = ∑ k : Fin 1024, (x (ix3 0 r k) : EReal) * W (ix2 e k) := by
  unfold zx
  pointwise [k0_pay2]

variable (I : In)

theorem act_at (r : Fin 256) (ch : Fin 2304) :
    act I (ix2 r ch) = (fun v : EReal => v * Ideal.logistic v)
      (((((I.cb (ix2 0 ch) : EReal) + I.e (ix2 ⟨r.val, by omega⟩ ch) * I.t0 (ix2 0 ch)) + I.e (ix2 ⟨1 + r.val, by omega⟩ ch) * I.t1 (ix2 0 ch))
        + I.e (ix2 ⟨2 + r.val, by omega⟩ ch) * I.t2 (ix2 0 ch)) + I.e (ix2 ⟨3 + r.val, by omega⟩ ch) * I.t3 (ix2 0 ch)) := by
  unfold act
  pointwise [k0_pay9, k0_pay6, k0_pay7, k0_pay8]

theorem dt_at (r : Fin 256) (h : Fin 32) :
    dt I (ix2 r h) = (fun v : EReal => max v 0 + Ideal.log1p (Ideal.exp (0 - max v (-v)))) ((I.dtr (ix2 r h) : EReal) + I.db (ix2 0 h)) := by
  unfold dt
  pointwise [k0_pay14]
  rfl

theorem cmp_at : ∀ r s : Fin 256, IntOp.cmpi .sge (BitVec.ofNat 32 r.val) (BitVec.ofNat 32 s.val) = if s ≤ r then 1#1 else 0#1 := by
  have h : ∀ r : Fin 256, (BitVec.ofNat 32 r.val).toInt = r.val := by decide +kernel
  intro r s
  show BitVec.ofBool (decide ((BitVec.ofNat 32 s.val).toInt ≤ (BitVec.ofNat 32 r.val).toInt)) = _
  rw [h, h]
  by_cases hs : s ≤ r
  · rw [if_pos hs, decide_eq_true (by exact_mod_cast hs)]; rfl
  · rw [if_neg hs, decide_eq_false (by exact_mod_cast hs)]; rfl

/-- The mask of the positions not after a row. -/
theorem tril_at (r s : Fin 256) : (k0_pay16 (F := Ideal) (ix2 r s) : EReal) = if s ≤ r then 1 else 0 := by
  pointwise [k0_pay16]
  rw [cmp_at]
  split_ifs
  · show (((BitVec.setWidth 32 1#1).toInt : ℝ) : EReal) = 1
    rw [show (BitVec.setWidth 32 1#1).toInt = 1 by decide]
    simp
  · show (((BitVec.setWidth 32 0#1).toInt : ℝ) : EReal) = 0
    rw [show (BitVec.setWidth 32 0#1).toInt = 0 by decide]
    simp

theorem cum_at (r : Fin 256) (h : Fin 32) :
    cum I (ix2 r h) = ∑ s : Fin 256, (k0_pay16 (F := Ideal) (ix2 r s) : EReal)
      * (((dt I (ix2 s h) : EReal) * (0 - Ideal.exp (I.al (ix2 0 h)))) * Named.named (F := Ideal) κ "log2e" (φ := .f32) 0x3FB8AA3B#32) := by
  unfold cum zero32
  pointwise [k0_pay17, k0_pay15]

theorem fromStart_at (r : Fin 256) (q : Fin 2048) :
    fromStart I (ix2 r q) = ∑ h : Fin 32, Ideal.exp2 (cum I (ix2 r h)) * (I.E (ix2 h q) : EReal) := by
  unfold fromStart cum
  pointwise [k0_pay19]
  rfl

theorem toEnd_at (r : Fin 256) (q : Fin 2048) :
    toEnd I (ix2 r q) = ∑ h : Fin 32, Ideal.exp2 ((cum I (ix2 255 h) : EReal) - cum I (ix2 r h)) * (I.E (ix2 h q) : EReal) := by
  unfold toEnd cum
  pointwise [k0_pay20]
  rfl

theorem xdt_at (r : Fin 256) (q : Fin 2048) :
    xdt I (ix2 r q) = (act I (ix2 r ⟨q.val, by omega⟩) : EReal) * ∑ h : Fin 32, (dt I (ix2 r h) : EReal) * I.E (ix2 h q) := by
  unfold xdt xs
  pointwise [k0_pay21]

theorem mask_at (r s : Fin 256) :
    mask I (ix2 r s) = (∑ n : Fin 128, (act I (ix2 r ⟨2176 + n.val, by omega⟩) : EReal) * act I (ix2 s ⟨2048 + n.val, by omega⟩))
      * (k0_pay16 (F := Ideal) (ix2 r s) : EReal) := by
  unfold mask Bm Cm
  pointwise [k0_pay22]

theorem headOut_at (h : Fin 32) (u : FVec Ideal S256x64 .f32) (r : Fin 256) (p : Fin 64) :
    headOut (cum I) (cumT I) (mask I) h u (ix2 r p)
      = ∑ s : Fin 256, ((mask I (ix2 r s) : EReal) * Ideal.exp2 (min ((cum I (ix2 r h) : EReal) - cum I (ix2 s h)) 0)) * u (ix2 s p) := by
  unfold headOut cumT cum
  pointwise [k0_pay18]
  rfl

theorem y_at (u : FVec Ideal S256x2048 .f32) (r : Fin 256) (q : Fin 2048) :
    y I (cols u) (ix2 r q)
      = ((∑ s : Fin 256, ((mask I (ix2 r s) : EReal) * Ideal.exp2 (min ((cum I (ix2 r ⟨q.val / 64, by omega⟩) : EReal) - cum I (ix2 s ⟨q.val / 64, by omega⟩)) 0)) * u (ix2 s q))
        + (∑ n : Fin 128, (act I (ix2 r ⟨2176 + n.val, by omega⟩) : EReal) * I.st (ix2 n q)) * fromStart I (ix2 r q))
        + (act I (ix2 r ⟨q.val, by omega⟩) : EReal) * I.d (ix2 0 q) := by
  have hc : concatenate S256x2048 1 (pieces I (cols u)) (concatenates I (cols u)) (ix2 r q)
      = headOut (cum I) (cumT I) (mask I) ⟨q.val / 64, by omega⟩ (cols u ⟨q.val / 64, by omega⟩) (ix2 r ⟨q.val % 64, by omega⟩) := by
    unfold pieces
    refine concatenate_ofFn_apply (t := S256x2048) (s₁ := S256x64) 1 (fun h => headOut (cum I) (cumT I) (mask I) h (cols u h)) (concatenates I (cols u)) rfl 64 rfl
      (ix2 r q) ⟨q.val / 64, by omega⟩ rfl (ix2 r ⟨q.val % 64, by omega⟩) rfl fun b hb => ?_
    revert b
    rw [Fin.forall_fin_two]
    exact ⟨fun _ => rfl, fun h => absurd rfl h⟩
  unfold y
  generalize concatenate S256x2048 1 (pieces I (cols u)) (concatenates I (cols u)) = z at hc ⊢
  unfold xs Cm
  pointwise
  rw [hc, headOut_at]
  have hq : ∀ s : Fin 256, cols u ⟨q.val / 64, by omega⟩ (ix2 s ⟨q.val % 64, by omega⟩) = u (ix2 s q) := fun s =>
    congrArg (fun k => u (ix2 s k)) (Fin.ext (Nat.div_add_mod q.val 64))
  simp only [hq]

/-- A row's gated values and the block written out. -/
theorem out_at (us : Fin 32 → FVec Ideal S256x64 .f32) (r : Fin 256) (d : Fin 1024) (g : Fin 2048 → EReal)
    (hg : ∀ q, ((y I us (ix2 r q) : EReal) * (I.gate (ix2 r q) * Ideal.logistic (I.gate (ix2 r q)))) = g q) :
    out I us (ix3 0 r d) = ∑ q : Fin 2048, ((g q * Ideal.rsqrt (Ideal.div (∑ q, g q * g q) (Ideal.ofBits .f32 0x45000000#32) + Ideal.ofBits .f32 0x3727C5AC#32))
      * (I.nw (ix2 0 q) : EReal)) * I.Wo (ix2 d q) := by
  unfold out
  pointwise [k0_pay1, k0_pay70, k0_pay71]
  simp only [hg]

theorem stNext_at (u : FVec Ideal S256x2048 .f32) (n : Fin 128) (q : Fin 2048) :
    stNext I u (ix2 n q) = (I.st (ix2 n q) : EReal) * fromStart I (ix2 255 q)
      + ∑ s : Fin 256, (act I (ix2 s ⟨2048 + n.val, by omega⟩) : EReal) * (u (ix2 s q) * toEnd I (ix2 s q)) := by
  unfold stNext Bm
  pointwise [k0_pay69]

end Cert.Chunk

end
-- ==== Proof.Recur.lean ====
/- The recurrence of one state element, and the same recurrence taken a block of positions at a time.

   One element of the state decays by `exp (a t)` at position `t` and then gains `u t * b t`. Opened over the `r + 1`
   positions from `T` on, its value is the old one decayed over all of them plus one term per position, decayed over the
   positions after it. That is what the kernel computes for a block of 256 positions at once; the reference steps through
   them one at a time. Everything here is about real numbers. -/
module

public import Mathlib.Analysis.SpecialFunctions.Exp
public import Mathlib.Algebra.BigOperators.Fin
public import Mathlib.Algebra.BigOperators.Group.Finset.Basic

@[expose] public section

noncomputable section

namespace Cert.Recur

open Finset

/-- One state element before position `t`: nothing at first, then decayed and added to at every position. -/
def hidden (a u b : ℕ → ℝ) : ℕ → ℝ
  | 0 => 0
  | t + 1 => hidden a u b t * Real.exp (a t) + u t * b t

/-- The log of the decay over the positions `T` to `T + r`. -/
def cum (a : ℕ → ℝ) (T r : ℕ) : ℝ := ∑ s ∈ range (r + 1), a (T + s)

theorem cum_succ (a : ℕ → ℝ) (T r : ℕ) : cum a T (r + 1) = cum a T r + a (T + (r + 1)) := by
  unfold cum; rw [sum_range_succ]

/-- The log of the decay falls as the stretch grows. -/
theorem cum_antitone (a : ℕ → ℝ) (ha : ∀ t, a t ≤ 0) (T : ℕ) : Antitone (cum a T) :=
  antitone_nat_of_succ_le fun r => by rw [cum_succ]; linarith [ha (T + (r + 1))]

/-- The recurrence opened over the positions `T` to `T + r`. -/
theorem hidden_open (a u b : ℕ → ℝ) (T r : ℕ) :
    hidden a u b (T + r + 1) = hidden a u b T * Real.exp (cum a T r)
      + ∑ s ∈ range (r + 1), Real.exp (cum a T r - cum a T s) * (u (T + s) * b (T + s)) := by
  induction r with
  | zero => simp [hidden, cum]
  | succ r ih =>
    have hs : ∀ s ∈ range (r + 1), Real.exp (cum a T (r + 1) - cum a T s) * (u (T + s) * b (T + s))
        = (Real.exp (cum a T r - cum a T s) * (u (T + s) * b (T + s))) * Real.exp (a (T + (r + 1))) := fun s _ => by
      rw [cum_succ, show cum a T r + a (T + (r + 1)) - cum a T s = (cum a T r - cum a T s) + a (T + (r + 1)) by ring,
        Real.exp_add]; ring
    have hstep : hidden a u b (T + (r + 1) + 1)
        = hidden a u b (T + r + 1) * Real.exp (a (T + (r + 1))) + u (T + (r + 1)) * b (T + (r + 1)) := rfl
    rw [hstep, ih, sum_range_succ _ (r + 1), sum_congr rfl hs, ← sum_mul, sub_self, Real.exp_zero, cum_succ, Real.exp_add]
    ring

/-- A masked sum over the 256 positions of a block is the sum over the positions up to `r`. -/
theorem masked_sum (f : ℕ → ℝ) {r : ℕ} (hr : r < 256) :
    ∑ s : Fin 256, (if (s : ℕ) ≤ r then f s else 0) = ∑ s ∈ range (r + 1), f s := by
  rw [Fin.sum_univ_eq_sum_range (fun s => if s ≤ r then f s else 0) 256, ← sum_filter]
  refine sum_congr (Finset.ext fun s => ?_) fun _ _ => rfl
  simp only [mem_filter, mem_range]; omega

/-- What a block's output row is: the masked products with the block's own positions and the old state, decayed, are the
    new state read out at that row. -/
theorem block_out (a u : ℕ → ℝ) (b : ℕ → Fin 128 → ℝ) (cc : Fin 128 → ℝ) (ha : ∀ t, a t ≤ 0) (T : ℕ) (r : Fin 256) :
    (∑ s : Fin 256, ((∑ n, cc n * b (T + s) n) * (if (s : ℕ) ≤ (r : ℕ) then 1 else 0)
        * Real.exp (min (cum a T r - cum a T s) 0)) * u (T + s))
      + (∑ n, cc n * hidden a u (fun t => b t n) T) * Real.exp (cum a T r)
    = ∑ n, hidden a u (fun t => b t n) (T + r + 1) * cc n := by
  have h1 : ∀ s : Fin 256, ((∑ n, cc n * b (T + s) n) * (if (s : ℕ) ≤ (r : ℕ) then 1 else 0)
        * Real.exp (min (cum a T r - cum a T s) 0)) * u (T + s)
      = if (s : ℕ) ≤ (r : ℕ) then
          (∑ n, cc n * b (T + (s : ℕ)) n) * Real.exp (cum a T r - cum a T (s : ℕ)) * u (T + (s : ℕ)) else 0 := fun s => by
    by_cases h : (s : ℕ) ≤ (r : ℕ)
    · rw [if_pos h, if_pos h, min_eq_left (by linarith [cum_antitone a ha T h]), mul_one]
    · rw [if_neg h, if_neg h]; ring
  rw [sum_congr rfl fun s _ => h1 s,
    masked_sum (fun s => (∑ n, cc n * b (T + s) n) * Real.exp (cum a T r - cum a T s) * u (T + s)) r.isLt]
  simp only [hidden_open, add_mul, sum_mul, sum_add_distrib]
  rw [add_comm]
  congr 1
  · exact sum_congr rfl fun n _ => by ring
  · rw [sum_comm]
    exact sum_congr rfl fun n _ => sum_congr rfl fun s _ => by ring

/-- What a block leaves in the state: the old state decayed over the block, and one decayed term per position. -/
theorem block_state (a u b : ℕ → ℝ) (T : ℕ) :
    hidden a u b T * Real.exp (cum a T 255)
      + ∑ s : Fin 256, b (T + s) * (u (T + s) * Real.exp (cum a T 255 - cum a T s))
    = hidden a u b (T + 256) := by
  rw [show T + 256 = T + 255 + 1 from rfl, hidden_open,
    Fin.sum_univ_eq_sum_range (fun s => b (T + s) * (u (T + s) * Real.exp (cum a T 255 - cum a T s))) 256]
  exact congrArg _ (sum_congr rfl fun s _ => by ring)

end Cert.Recur

end
-- ==== Proof.Spec.lean ====
/- What one Mamba-2 block computes, element by element, as extended reals.

   The functions below are the mathematics both programs are compared with: the input projection, the causal convolution with
   its gate, the step sizes, the state's recurrence (`Recur.lean`), and the gated, normalised, projected output. A position is
   a natural number, so that "three rows back" needs no bound; the input is zero past the sequence.

   With finite inputs (`Tame`) everything the recurrence reads is a real number, and the log of the decay is not positive. -/
module

public import proofs.«01_k».proof.Proof.Recur
public import Idealize.ShloMosaic.PureOps.Ideal

@[expose] public section

noncomputable section

namespace Cert.Spec

open Idealize.ShloMosaic

/-- The nine arguments, read at coordinates. -/
structure Args where
  X : Fin 2 → ℕ → Fin 1024 → EReal
  Wi : Fin 4384 → Fin 1024 → EReal
  cw : Fin 2304 → Fin 4 → EReal
  cb : Fin 2304 → EReal
  db : Fin 32 → EReal
  al : Fin 32 → EReal
  D : Fin 32 → EReal
  nw : Fin 2048 → EReal
  Wo : Fin 1024 → Fin 2048 → EReal

/-- The head a column belongs to. -/
def head (q : Fin 2048) : Fin 32 := ⟨q / 64, by omega⟩

variable (a : Args)

/-- The input projection. -/
def proj (b : Fin 2) (l : ℕ) (e : Fin 4384) : EReal := ∑ k, a.X b l k * a.Wi e k

/-- The convolution's input: three rows of zeros, then the projection's middle columns. -/
def padded (b : Fin 2) (l : ℕ) (ch : Fin 2304) : EReal := if l < 3 then 0 else proj a b (l - 3) ⟨2048 + ch, by omega⟩

/-- The four shifted products and the bias. -/
def conv (b : Fin 2) (l : ℕ) (ch : Fin 2304) : EReal :=
  padded a b l ch * a.cw ch 0 + padded a b (l + 1) ch * a.cw ch 1 + padded a b (l + 2) ch * a.cw ch 2
    + padded a b (l + 3) ch * a.cw ch 3 + a.cb ch

/-- `v · σ(v)`. -/
def silu (v : EReal) : EReal := v * Ideal.logistic v

/-- What the recurrence reads at a position: the state's inputs, and its input and output directions. -/
def act (b : Fin 2) (l : ℕ) (ch : Fin 2304) : EReal := silu (conv a b l ch)
def xs (b : Fin 2) (l : ℕ) (q : Fin 2048) : EReal := act a b l ⟨q, by omega⟩
def Bs (b : Fin 2) (l : ℕ) (n : Fin 128) : EReal := act a b l ⟨2048 + n, by omega⟩
def Cs (b : Fin 2) (l : ℕ) (n : Fin 128) : EReal := act a b l ⟨2176 + n, by omega⟩

/-- `log (1 + eᵛ)`, written without overflow. -/
def softplus (v : EReal) : EReal := max v 0 + Ideal.log1p (Ideal.exp (-(max v (-v))))

/-- The step size. -/
def dt (b : Fin 2) (l : ℕ) (h : Fin 32) : EReal := softplus (proj a b l ⟨4352 + h, by omega⟩ + a.db h)

/-- The decay rate of a head. -/
def rate (h : Fin 32) : EReal := -Ideal.exp (a.al h)

/-- The recurrence's real data. -/
def logDecay (b : Fin 2) (h : Fin 32) (l : ℕ) : ℝ := (dt a b l h * rate a h).toReal
def gain (b : Fin 2) (q : Fin 2048) (l : ℕ) : ℝ := (dt a b l (head q) * xs a b l q).toReal
def dirIn (b : Fin 2) (n : Fin 128) (l : ℕ) : ℝ := (Bs a b l n).toReal
def dirOut (b : Fin 2) (n : Fin 128) (l : ℕ) : ℝ := (Cs a b l n).toReal

/-- The state before position `l`. -/
def state (b : Fin 2) (q : Fin 2048) (n : Fin 128) (l : ℕ) : ℝ :=
  Recur.hidden (logDecay a b (head q)) (gain a b q) (dirIn a b n) l

/-- The state after position `l`, read out. -/
def ssm (b : Fin 2) (l : ℕ) (q : Fin 2048) : EReal :=
  ((∑ n, state a b q n (l + 1) * dirOut a b n l : ℝ) : EReal)

/-- The skip and the gate. -/
def gated (b : Fin 2) (l : ℕ) (q : Fin 2048) : EReal :=
  (ssm a b l q + xs a b l q * a.D (head q)) * silu (proj a b l ⟨q, by omega⟩)

/-- One over the root of the mean square of a row. -/
def scale (b : Fin 2) (l : ℕ) : EReal :=
  Ideal.rsqrt (Ideal.div (∑ q, gated a b l q * gated a b l q) (Ideal.ofBits .f32 0x45000000#32) + Ideal.ofBits .f32 0x3727C5AC#32)

/-- The result. -/
def out (b : Fin 2) (l : ℕ) (d : Fin 1024) : EReal := ∑ q, gated a b l q * scale a b l * a.nw q * a.Wo d q

/-! ## Real values -/

/-- A value that is a real number. -/
def IsReal (x : EReal) : Prop := x = (x.toReal : EReal)

theorem IsReal.coe (r : ℝ) : IsReal (r : EReal) := by rw [IsReal, EReal.toReal_coe]
theorem IsReal.of_eq {x : EReal} {r : ℝ} (h : x = r) : IsReal x := h ▸ .coe r
theorem IsReal.ne {x : EReal} (h1 : x ≠ ⊤) (h2 : x ≠ ⊥) : IsReal x := (EReal.coe_toReal h1 h2).symm
theorem IsReal.zero : IsReal 0 := .of_eq EReal.coe_zero.symm

theorem IsReal.add {x y : EReal} (hx : IsReal x) (hy : IsReal y) : IsReal (x + y) := by
  rw [hx, hy, ← EReal.coe_add]; exact .coe _
theorem IsReal.mul {x y : EReal} (hx : IsReal x) (hy : IsReal y) : IsReal (x * y) := by
  rw [hx, hy, ← EReal.coe_mul]; exact .coe _

/-- The cast to extended reals goes through finite sums. -/
theorem coe_sum {ι : Type*} (s : Finset ι) (f : ι → ℝ) : ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

theorem IsReal.sum {ι : Type*} (s : Finset ι) {f : ι → EReal} (h : ∀ i, IsReal (f i)) : IsReal (∑ i ∈ s, f i) := by
  rw [Finset.sum_congr rfl fun i _ => h i, ← coe_sum]; exact .coe _

theorem IsReal.silu {v : EReal} (h : IsReal v) : IsReal (silu v) := by
  rw [Spec.silu, h, Ideal.logistic_coe, ← EReal.coe_mul]; exact .coe _

/-- The step size of a real number is a positive real. -/
theorem softplus_coe (r : ℝ) : softplus (r : EReal) = ((max r 0 + Real.log (1 + Real.exp (-(max r (-r)))) : ℝ) : EReal) := by
  have h : ¬ (1 + Real.exp (-(max r (-r))) ≤ 0) := by have := Real.exp_pos (-(max r (-r))); linarith
  have hmax : ∀ x y : ℝ, max (x : EReal) (y : EReal) = ((max x y : ℝ) : EReal) := fun x y =>
    (EReal.coe_strictMono.monotone.map_max).symm
  rw [softplus, ← EReal.coe_neg, ← EReal.coe_zero, hmax, hmax, ← EReal.coe_neg, Ideal.exp_coe, Ideal.log1p, ← EReal.coe_one,
    ← EReal.coe_add, Ideal.log_coe, if_neg h, ← EReal.coe_add]

theorem IsReal.softplus {v : EReal} (h : IsReal v) : IsReal (softplus v) := by
  rw [h, softplus_coe]; exact .coe _

theorem softplus_nonneg {v : EReal} (h : IsReal v) : 0 ≤ (softplus v).toReal := by
  rw [h, softplus_coe, EReal.toReal_coe]
  have := Real.log_nonneg (x := 1 + Real.exp (-(max v.toReal (-v.toReal)))) (by linarith [Real.exp_pos (-(max v.toReal (-v.toReal)))])
  have := le_max_right v.toReal 0
  linarith

/-- What the recurrence is fed from is real, and no rate's logarithm is `+∞`. -/
structure Tame : Prop where
  X : ∀ b l k, IsReal (a.X b l k)
  Wi : ∀ e k, IsReal (a.Wi e k)
  cw : ∀ ch k, IsReal (a.cw ch k)
  cb : ∀ ch, IsReal (a.cb ch)
  db : ∀ h, IsReal (a.db h)
  al : ∀ h, a.al h ≠ ⊤

variable {a} (ht : Tame a)
include ht

theorem real_proj (b : Fin 2) (l : ℕ) (e : Fin 4384) : IsReal (proj a b l e) :=
  .sum _ fun k => (ht.X b l k).mul (ht.Wi e k)

theorem real_padded (b : Fin 2) (l : ℕ) (ch : Fin 2304) : IsReal (padded a b l ch) := by
  unfold padded; split
  · exact .zero
  · exact real_proj ht ..

theorem real_act (b : Fin 2) (l : ℕ) (ch : Fin 2304) : IsReal (act a b l ch) :=
  .silu <| .add (.add (.add (.add (.mul (real_padded ht ..) (ht.cw ..)) (.mul (real_padded ht ..) (ht.cw ..)))
    (.mul (real_padded ht ..) (ht.cw ..))) (.mul (real_padded ht ..) (ht.cw ..))) (ht.cb ch)

theorem real_xs (b : Fin 2) (l : ℕ) (q : Fin 2048) : IsReal (xs a b l q) := real_act ht ..
theorem Bs_eq (b : Fin 2) (l : ℕ) (n : Fin 128) : Bs a b l n = (dirIn a b n l : EReal) := real_act ht ..
theorem Cs_eq (b : Fin 2) (l : ℕ) (n : Fin 128) : Cs a b l n = (dirOut a b n l : EReal) := real_act ht ..

theorem real_dt (b : Fin 2) (l : ℕ) (h : Fin 32) : IsReal (dt a b l h) := .softplus <| (real_proj ht ..).add (ht.db h)

/-- A rate is a real number that is not positive. -/
theorem rate_eq (h : Fin 32) : ∃ r : ℝ, 0 ≤ r ∧ rate a h = ((-r : ℝ) : EReal) := by
  unfold rate
  induction hal : a.al h using EReal.rec with
  | bot => exact ⟨0, le_rfl, by simp⟩
  | coe r => exact ⟨Real.exp r, (Real.exp_pos r).le, by rw [Ideal.exp_coe, EReal.coe_neg]⟩
  | top => exact absurd hal (ht.al h)

theorem real_rate (h : Fin 32) : IsReal (rate a h) := let ⟨_, _, e⟩ := rate_eq ht h; .of_eq e

theorem decay_eq (b : Fin 2) (h : Fin 32) (l : ℕ) : dt a b l h * rate a h = (logDecay a b h l : EReal) :=
  (real_dt ht ..).mul (real_rate ht h)

theorem gain_eq (b : Fin 2) (q : Fin 2048) (l : ℕ) : dt a b l (head q) * xs a b l q = (gain a b q l : EReal) :=
  (real_dt ht ..).mul (real_xs ht ..)

/-- The log of the decay is not positive. -/
theorem logDecay_nonpos (b : Fin 2) (h : Fin 32) (l : ℕ) : logDecay a b h l ≤ 0 := by
  obtain ⟨r, hr, e⟩ := rate_eq ht h
  have h0 : 0 ≤ (dt a b l h).toReal := softplus_nonneg ((real_proj ht ..).add (ht.db h))
  rw [logDecay, e, EReal.toReal_mul, EReal.toReal_coe]
  nlinarith

end Cert.Spec

end
-- ==== Proof.Step.lean ====
/- One grid point against the specification.

   With its operands' blocks read at the block's rows, the convolution's input at its carried and own rows, and the state at the
   block's first position (`Meets`), a grid point computes the specification's rows and leaves the state at the next block's
   first position. The sums over the 256 rows are the recurrence opened over the block (`Recur.block_out`, `Recur.block_state`);
   the exponentials are taken in base two of logs scaled by `1 / log 2`. -/
module

public import proofs.«01_k».proof.Proof.Stages
public import proofs.«01_k».proof.Proof.Spec

@[expose] public section

set_option maxRecDepth 16384

noncomputable section

namespace Cert.Chunk

open Idealize.ShloMosaic Idealize.ShloMosaic.TcCoe Idealize.SL.Sem
open Cert.KernelIdeal Cert.KernelIdeal.Gen

/-- The givens of the block of batch `b` whose first position is `T`. -/
structure Meets (a : Spec.Args) (b : Fin 2) (T : ℕ) (I : In) : Prop where
  gate : ∀ (r : Fin 256) (q : Fin 2048), I.gate (ix2 r q) = Spec.proj a b (T + r) ⟨q, by omega⟩
  dtr : ∀ (r : Fin 256) (h : Fin 32), I.dtr (ix2 r h) = Spec.proj a b (T + r) ⟨4352 + h, by omega⟩
  e : ∀ (r : Fin 259) (ch : Fin 2304), I.e (ix2 r ch) = Spec.padded a b (T + r) ch
  t0 : ∀ ch : Fin 2304, I.t0 (ix2 0 ch) = a.cw ch 0
  t1 : ∀ ch : Fin 2304, I.t1 (ix2 0 ch) = a.cw ch 1
  t2 : ∀ ch : Fin 2304, I.t2 (ix2 0 ch) = a.cw ch 2
  t3 : ∀ ch : Fin 2304, I.t3 (ix2 0 ch) = a.cw ch 3
  cb : ∀ ch : Fin 2304, I.cb (ix2 0 ch) = a.cb ch
  db : ∀ h : Fin 32, I.db (ix2 0 h) = a.db h
  al : ∀ h : Fin 32, I.al (ix2 0 h) = a.al h
  d : ∀ q : Fin 2048, I.d (ix2 0 q) = a.D (Spec.head q)
  nw : ∀ q : Fin 2048, I.nw (ix2 0 q) = a.nw q
  Wo : ∀ (d : Fin 1024) (q : Fin 2048), I.Wo (ix2 d q) = a.Wo d q
  E : ∀ (h : Fin 32) (q : Fin 2048), I.E (ix2 h q) = (if h = Spec.head q then (1 : EReal) else 0)
  st : ∀ (n : Fin 128) (q : Fin 2048), I.st (ix2 n q) = (Spec.state a b q n T : EReal)

variable {a : Spec.Args} {b : Fin 2} {T : ℕ} {I : In} (hI : Meets a b T I)
include hI

theorem act_eq (r : Fin 256) (ch : Fin 2304) : act I (ix2 r ch) = Spec.act a b (T + r) ch := by
  rw [act_at, hI.cb, hI.e, hI.e, hI.e, hI.e, hI.t0, hI.t1, hI.t2, hI.t3]
  show Spec.silu _ = Spec.silu _
  refine congrArg Spec.silu ?_
  unfold Spec.conv
  rw [add_comm _ (a.cb ch), ← add_assoc, ← add_assoc, ← add_assoc]
  simp only [← add_assoc, add_comm, add_left_comm]

theorem dt_eq (r : Fin 256) (h : Fin 32) : dt I (ix2 r h) = Spec.dt a b (T + r) h := by
  rw [dt_at, hI.dtr, hI.db]
  show max _ 0 + Ideal.log1p (Ideal.exp (0 - _)) = _
  rw [zero_sub]
  rfl

omit hI in
theorem log2e_eq : (Named.named (F := Ideal) κ "log2e" (φ := .f32) 0x3FB8AA3B#32 : EReal) = (((Real.log 2)⁻¹ : ℝ) : EReal) := by
  show (κ "log2e").getD _ = _
  rfl

omit hI in
theorem exp2_scaled (x : ℝ) : Ideal.exp2 ((x * (Real.log 2)⁻¹ : ℝ) : EReal) = (Real.exp x : EReal) := by
  have h2 : Real.log 2 ≠ 0 := (Real.log_pos (by norm_num)).ne'
  rw [Ideal.exp2_coe]
  show ((Real.rpow 2 (x * (Real.log 2)⁻¹) : ℝ) : EReal) = _
  refine congrArg _ ?_
  show (2 : ℝ) ^ (x * (Real.log 2)⁻¹) = _
  rw [Real.rpow_def_of_pos (by norm_num)]
  congr 1
  field_simp

omit hI in
theorem sum_head (f : Fin 32 → EReal) (q : Fin 2048) :
    ∑ h : Fin 32, f h * (if h = Spec.head q then (1 : EReal) else 0) = f (Spec.head q) := by
  rw [Finset.sum_eq_single (Spec.head q) (fun h _ hh => by rw [if_neg hh, mul_zero]) (fun h => absurd (Finset.mem_univ _) h), if_pos rfl, mul_one]

variable (ht : Spec.Tame a)
include ht

theorem cum_eq (r : Fin 256) (h : Fin 32) :
    cum I (ix2 r h) = ((Recur.cum (Spec.logDecay a b h) T r * (Real.log 2)⁻¹ : ℝ) : EReal) := by
  rw [cum_at]
  have hs : ∀ s : Fin 256, (k0_pay16 (F := Ideal) (ix2 r s) : EReal)
      * (((dt I (ix2 s h) : EReal) * (0 - Ideal.exp (I.al (ix2 0 h)))) * Named.named (F := Ideal) κ "log2e" (φ := .f32) 0x3FB8AA3B#32)
      = (((if (s : ℕ) ≤ r then Spec.logDecay a b h (T + s) * (Real.log 2)⁻¹ else 0) : ℝ) : EReal) := fun s => by
    rw [tril_at, dt_eq hI, hI.al, zero_sub, log2e_eq, show -Ideal.exp (a.al h) = Spec.rate a h from rfl, Spec.decay_eq ht, ← EReal.coe_mul]
    by_cases hsr : s ≤ r
    · rw [if_pos hsr, if_pos (by exact_mod_cast hsr), one_mul]
    · rw [if_neg hsr, if_neg (by exact_mod_cast hsr), zero_mul, EReal.coe_zero]
  rw [Finset.sum_congr rfl fun s _ => hs s, ← Spec.coe_sum, Recur.masked_sum (fun s => Spec.logDecay a b h (T + s) * (Real.log 2)⁻¹) r.isLt,
    ← Finset.sum_mul]
  rfl

theorem fromStart_eq (r : Fin 256) (q : Fin 2048) :
    fromStart I (ix2 r q) = (Real.exp (Recur.cum (Spec.logDecay a b (Spec.head q)) T r) : EReal) := by
  rw [fromStart_at]
  simp only [hI.E]
  rw [sum_head, cum_eq hI ht, exp2_scaled]

theorem toEnd_eq (r : Fin 256) (q : Fin 2048) :
    toEnd I (ix2 r q) = (Real.exp (Recur.cum (Spec.logDecay a b (Spec.head q)) T 255 - Recur.cum (Spec.logDecay a b (Spec.head q)) T r) : EReal) := by
  rw [toEnd_at]
  simp only [hI.E]
  rw [sum_head (fun h => Ideal.exp2 ((cum I (ix2 255 h) : EReal) - cum I (ix2 r h))), cum_eq hI ht, cum_eq hI ht, ← EReal.coe_sub, ← sub_mul, exp2_scaled]
  rfl

theorem xdt_eq (r : Fin 256) (q : Fin 2048) : xdt I (ix2 r q) = (Spec.gain a b q (T + r) : EReal) := by
  rw [xdt_at]
  simp only [hI.E]
  rw [sum_head (fun h => (dt I (ix2 r h) : EReal)), dt_eq hI, act_eq hI, mul_comm, ← Spec.gain_eq ht]
  rfl

theorem mask_eq (r s : Fin 256) :
    mask I (ix2 r s) = (((∑ n, Spec.dirOut a b n (T + r) * Spec.dirIn a b n (T + s)) * (if (s : ℕ) ≤ (r : ℕ) then 1 else 0) : ℝ) : EReal) := by
  have hn : ∀ n : Fin 128, (act I (ix2 r ⟨2176 + n.val, by omega⟩) : EReal) * act I (ix2 s ⟨2048 + n.val, by omega⟩)
      = ((Spec.dirOut a b n (T + r) * Spec.dirIn a b n (T + s) : ℝ) : EReal) := fun n => by
    rw [act_eq hI, act_eq hI, EReal.coe_mul, ← Spec.Cs_eq ht, ← Spec.Bs_eq ht]
    rfl
  rw [mask_at, tril_at, Finset.sum_congr rfl fun n _ => hn n, ← Spec.coe_sum, EReal.coe_mul]
  refine congrArg _ ?_
  by_cases hsr : s ≤ r
  · rw [if_pos hsr, if_pos (by exact_mod_cast hsr), EReal.coe_one]
  · rw [if_neg hsr, if_neg (by exact_mod_cast hsr), EReal.coe_zero]

theorem y_eq (r : Fin 256) (q : Fin 2048) :
    y I (cols (xdt I)) (ix2 r q) = Spec.ssm a b (T + r) q + Spec.xs a b (T + r) q * a.D (Spec.head q) := by
  have hs : ∀ s : Fin 256, ((mask I (ix2 r s) : EReal) * Ideal.exp2 (min ((cum I (ix2 r (Spec.head q)) : EReal) - cum I (ix2 s (Spec.head q))) 0)) * xdt I (ix2 s q)
      = ((((∑ n, Spec.dirOut a b n (T + r) * Spec.dirIn a b n (T + s)) * (if (s : ℕ) ≤ (r : ℕ) then 1 else 0)
        * Real.exp (min (Recur.cum (Spec.logDecay a b (Spec.head q)) T r - Recur.cum (Spec.logDecay a b (Spec.head q)) T s) 0)) * Spec.gain a b q (T + s) : ℝ) : EReal) := fun s => by
    have hmin : min ((cum I (ix2 r (Spec.head q)) : EReal) - cum I (ix2 s (Spec.head q))) 0
        = ((min (Recur.cum (Spec.logDecay a b (Spec.head q)) T r - Recur.cum (Spec.logDecay a b (Spec.head q)) T s) 0 * (Real.log 2)⁻¹ : ℝ) : EReal) := by
      rw [cum_eq hI ht, cum_eq hI ht, ← EReal.coe_sub, ← EReal.coe_zero, ← EReal.coe_strictMono.monotone.map_min, ← sub_mul,
        min_mul_of_nonneg _ _ (inv_nonneg.mpr (Real.log_nonneg (by norm_num))), zero_mul]
    rw [hmin, exp2_scaled, mask_eq hI ht, xdt_eq hI ht, ← EReal.coe_mul, ← EReal.coe_mul]
  have hn : ∀ n : Fin 128, (act I (ix2 r ⟨2176 + n.val, by omega⟩) : EReal) * I.st (ix2 n q)
      = ((Spec.dirOut a b n (T + r) * Spec.state a b q n T : ℝ) : EReal) := fun n => by
    rw [act_eq hI, hI.st, EReal.coe_mul, ← Spec.Cs_eq ht]
    rfl
  rw [y_at]
  refine congr (congrArg _ ?_) ?_
  · rw [show (⟨q.val / 64, by omega⟩ : Fin 32) = Spec.head q from rfl, Finset.sum_congr rfl fun s _ => hs s, Finset.sum_congr rfl fun n _ => hn n, fromStart_eq hI ht, ← Spec.coe_sum,
      ← Spec.coe_sum, ← EReal.coe_mul, ← EReal.coe_add]
    exact congrArg _ (Recur.block_out (Spec.logDecay a b (Spec.head q)) (Spec.gain a b q) (fun t n => Spec.dirIn a b n t)
      (fun n => Spec.dirOut a b n (T + r)) (Spec.logDecay_nonpos ht b _) T r)
  · rw [act_eq hI, hI.d]
    rfl

/-- The point's output rows. -/
theorem out_eq (r : Fin 256) (d : Fin 1024) : out I (cols (xdt I)) (ix3 0 r d) = Spec.out a b (T + r) d := by
  rw [out_at I _ r d (fun q => Spec.gated a b (T + r) q) fun q => by rw [y_eq hI ht, hI.gate]; rfl]
  simp only [hI.nw, hI.Wo]
  rfl

/-- The state it leaves. -/
theorem stNext_eq (n : Fin 128) (q : Fin 2048) : stNext I (xdt I) (ix2 n q) = (Spec.state a b q n (T + 256) : EReal) := by
  have hs : ∀ s : Fin 256, (act I (ix2 s ⟨2048 + n.val, by omega⟩) : EReal) * (xdt I (ix2 s q) * toEnd I (ix2 s q))
      = ((Spec.dirIn a b n (T + s) * (Spec.gain a b q (T + s)
        * Real.exp (Recur.cum (Spec.logDecay a b (Spec.head q)) T 255 - Recur.cum (Spec.logDecay a b (Spec.head q)) T s)) : ℝ) : EReal) := fun s => by
    rw [act_eq hI, xdt_eq hI ht, toEnd_eq hI ht, EReal.coe_mul, EReal.coe_mul, ← Spec.Bs_eq ht]
    rfl
  rw [stNext_at, hI.st, fromStart_eq hI ht, Finset.sum_congr rfl fun s _ => hs s, ← Spec.coe_sum, ← EReal.coe_mul, ← EReal.coe_add]
  exact congrArg _ (Recur.block_state (Spec.logDecay a b (Spec.head q)) (Spec.gain a b q) (Spec.dirIn a b n) T)

end Cert.Chunk

end
-- ==== Proof.Table.lean ====
/- The kernel's table that spreads a value per head over the head's columns: ones where the column is the head's.

   The table is printed as three levels of choices, by 16384, by 128 and by one. `arms` is a level of 128 choices whose arms
   are given by a function; the printed levels are instances of it. -/
module

public import proofs.«01_k».proof.Proof.Chunk
public import proofs.«01_k».proof.Proof.Spec

@[expose] public section

set_option maxRecDepth 16384

noncomputable section

namespace Cert.Chunk

open Idealize.ShloMosaic Idealize.ShloMosaic.TcCoe Idealize.SL.Sem
open Cert.KernelIdeal Cert.KernelIdeal.Gen

/-- A level of 128 choices. -/
def arms (f : ℕ → BitVec 16) (n : ℕ) : BitVec 16 := match n with
  | 0 => f 0 | 1 => f 1 | 2 => f 2 | 3 => f 3 | 4 => f 4 | 5 => f 5 | 6 => f 6 | 7 => f 7
  | 8 => f 8 | 9 => f 9 | 10 => f 10 | 11 => f 11 | 12 => f 12 | 13 => f 13 | 14 => f 14 | 15 => f 15
  | 16 => f 16 | 17 => f 17 | 18 => f 18 | 19 => f 19 | 20 => f 20 | 21 => f 21 | 22 => f 22 | 23 => f 23
  | 24 => f 24 | 25 => f 25 | 26 => f 26 | 27 => f 27 | 28 => f 28 | 29 => f 29 | 30 => f 30 | 31 => f 31
  | 32 => f 32 | 33 => f 33 | 34 => f 34 | 35 => f 35 | 36 => f 36 | 37 => f 37 | 38 => f 38 | 39 => f 39
  | 40 => f 40 | 41 => f 41 | 42 => f 42 | 43 => f 43 | 44 => f 44 | 45 => f 45 | 46 => f 46 | 47 => f 47
  | 48 => f 48 | 49 => f 49 | 50 => f 50 | 51 => f 51 | 52 => f 52 | 53 => f 53 | 54 => f 54 | 55 => f 55
  | 56 => f 56 | 57 => f 57 | 58 => f 58 | 59 => f 59 | 60 => f 60 | 61 => f 61 | 62 => f 62 | 63 => f 63
  | 64 => f 64 | 65 => f 65 | 66 => f 66 | 67 => f 67 | 68 => f 68 | 69 => f 69 | 70 => f 70 | 71 => f 71
  | 72 => f 72 | 73 => f 73 | 74 => f 74 | 75 => f 75 | 76 => f 76 | 77 => f 77 | 78 => f 78 | 79 => f 79
  | 80 => f 80 | 81 => f 81 | 82 => f 82 | 83 => f 83 | 84 => f 84 | 85 => f 85 | 86 => f 86 | 87 => f 87
  | 88 => f 88 | 89 => f 89 | 90 => f 90 | 91 => f 91 | 92 => f 92 | 93 => f 93 | 94 => f 94 | 95 => f 95
  | 96 => f 96 | 97 => f 97 | 98 => f 98 | 99 => f 99 | 100 => f 100 | 101 => f 101 | 102 => f 102 | 103 => f 103
  | 104 => f 104 | 105 => f 105 | 106 => f 106 | 107 => f 107 | 108 => f 108 | 109 => f 109 | 110 => f 110 | 111 => f 111
  | 112 => f 112 | 113 => f 113 | 114 => f 114 | 115 => f 115 | 116 => f 116 | 117 => f 117 | 118 => f 118 | 119 => f 119
  | 120 => f 120 | 121 => f 121 | 122 => f 122 | 123 => f 123 | 124 => f 124 | 125 => f 125 | 126 => f 126 | 127 => f 127
  | _ => 0#16

theorem arms_eq (f : ℕ → BitVec 16) (n : Fin 128) : arms f n.val = f n.val := by
  fin_cases n <;> rfl

/-- The entry of row `h` at column `64 g + p`: one where `h = g`. -/
def entry (h g : ℕ) : BitVec 16 := bif h == g then 0x3F80#16 else 0x0000#16

/-- 16384 of the table's entries. -/
def quarter (a i : ℕ) : BitVec 16 :=
  arms (fun k => arms (fun n => entry (8 * a + k / 16) (2 * (k % 16) + n / 64)) (i % 128)) (i / 128 % 128)

theorem quarter0 (i : ℕ) : lit0t1_0 i = quarter 0 i := by sl_kernel_rfl
theorem quarter1 (i : ℕ) : lit0t1_1 i = quarter 1 i := by sl_kernel_rfl
theorem quarter2 (i : ℕ) : lit0t1_2 i = quarter 2 i := by sl_kernel_rfl
theorem quarter3 (i : ℕ) : lit0t1_3 i = quarter 3 i := by sl_kernel_rfl

theorem quarter_eq (a i : ℕ) : quarter a i = entry (8 * a + i / 128 % 128 / 16) (2 * (i / 128 % 128 % 16) + i % 128 / 64) := by
  have h1 := arms_eq (fun k => arms (fun n => entry (8 * a + k / 16) (2 * (k % 16) + n / 64)) (i % 128)) ⟨i / 128 % 128, by omega⟩
  have h2 := arms_eq (fun n => entry (8 * a + i / 128 % 128 / 16) (2 * (i / 128 % 128 % 16) + n / 64)) ⟨i % 128, by omega⟩
  exact h1.trans h2

theorem table_nat (h g : ℕ) (p : Fin 64) (hh : h < 32) (hg : g < 32) :
    lit0t (2048 * h + (64 * g + p.val)) = entry h g := by
  have key : ∀ i, i / 16384 = h / 8 → lit0t i = quarter (h / 8) i := fun i hi => by
    unfold lit0t
    rw [hi]
    obtain h0 | h0 | h0 | h0 : h / 8 = 0 ∨ h / 8 = 1 ∨ h / 8 = 2 ∨ h / 8 = 3 := by omega
    · rw [h0]; exact quarter0 i
    · rw [h0]; exact quarter1 i
    · rw [h0]; exact quarter2 i
    · rw [h0]; exact quarter3 i
  rw [key _ (by omega), quarter_eq]
  congr 1 <;> omega

theorem table_at (h : Fin 32) (q : Fin 2048) :
    (FloatOps.ofBits (F := Ideal) .bf16 (lit0 (S32x2048.rowMajor (ix2 h q))) : EReal) = if h = Spec.head q then (1 : EReal) else 0 := by
  have hr : (S32x2048.rowMajor (ix2 h q)).val = 2048 * h.val + (64 * (q.val / 64) + q.val % 64) := by
    rw [rowMajor_val2 (ix2 h q) 2048 rfl]
    show h.val * 2048 + q.val = _
    omega
  have e : lit0 (S32x2048.rowMajor (ix2 h q)) = entry h.val (q.val / 64) := by
    show lit0t (S32x2048.rowMajor (ix2 h q)).val = _
    rw [hr]
    exact table_nat h.val (q.val / 64) ⟨q.val % 64, by omega⟩ h.isLt (by omega)
  rw [e, entry]
  by_cases hq : h = Spec.head q
  · rw [if_pos hq, show (h.val == q.val / 64) = true by rw [hq]; simp [Spec.head]]
    exact IdealRules.sign_bit.ideal_onePat .bf16
  · rw [if_neg hq, show (h.val == q.val / 64) = false by simp only [beq_eq_false_iff_ne]; exact fun e => hq (Fin.ext e)]
    exact IdealRules.sign_bit.ideal_zero .bf16

end Cert.Chunk

end
-- ==== Proof.Arrays.lean ====
/- The arguments as arrays: the nine of either program, read at coordinates as the specification reads them. -/
module

public import proofs.«01_k».proof.Proof.Spec
public import Idealize.ShloMosaic.Lib.Pointwise

@[expose] public section

noncomputable section

namespace Cert.Spec

open Idealize.ShloMosaic

/-- The specification's arguments, from the arrays; the input is zero past the sequence. -/
def ofArrays (x0 : FVec Ideal ⟨3, ![2, 4096, 1024]⟩ .f32) (x1 : FVec Ideal ⟨2, ![4384, 1024]⟩ .f32) (x2 : FVec Ideal ⟨2, ![2304, 4]⟩ .f32)
    (x3 : FVec Ideal ⟨1, ![2304]⟩ .f32) (x4 x5 x6 : FVec Ideal ⟨1, ![32]⟩ .f32) (x7 : FVec Ideal ⟨1, ![2048]⟩ .f32)
    (x8 : FVec Ideal ⟨2, ![1024, 2048]⟩ .f32) : Args where
  X b l k := if h : l < 4096 then x0 (ix3 b ⟨l, h⟩ k) else 0
  Wi e k := x1 (ix2 e k)
  cw ch k := x2 (ix2 ch k)
  cb ch := x3 (ix1 ch)
  db h := x4 (ix1 h)
  al h := x5 (ix1 h)
  D h := x6 (ix1 h)
  nw q := x7 (ix1 q)
  Wo d q := x8 (ix2 d q)

end Cert.Spec

end
-- ==== Proof.Points.lean ====
/- What a grid point reads: its blocks, entry by entry, are the arguments' entries; so its givens meet the specification. -/
module

public import proofs.«01_k».proof.Proof.OpenA
public import proofs.«01_k».proof.Proof.OpenB
public import proofs.«01_k».proof.Proof.Step
public import proofs.«01_k».proof.Proof.Table
public import proofs.«01_k».proof.Proof.Arrays

@[expose] public section

set_option maxRecDepth 16384

noncomputable section

namespace Cert.Chunk

open Idealize.ShloMosaic Idealize.ShloMosaic.TcCoe Idealize.SL.Sem
open Cert.KernelIdeal Cert.KernelIdeal.Gen

variable (m : (ℓ : Loc nD τ sig) → Buf (Elt Ideal) ℓ) (c : Dev nD) (t : Fin cfg0.N)

/-- The specification's arguments, from the kernel's. -/
def args : Spec.Args :=
  Spec.ofArrays (m (c, Proc.tc.devRef main_arg0)) (m (c, Proc.tc.devRef main_arg1)) (m (c, Proc.tc.devRef main_arg2))
    (m (c, Proc.tc.devRef main_arg3)) (m (c, Proc.tc.devRef main_arg4)) (m (c, Proc.tc.devRef main_arg5))
    (m (c, Proc.tc.devRef main_arg6)) (m (c, Proc.tc.devRef main_arg7)) (m (c, Proc.tc.devRef main_arg8))

/-! ## The blocks -/

theorem idx0 : ∀ t : Fin cfg0.N, win0_0.index t = ![t.val / 16, t.val % 16, 0] :=
  (by decide +kernel : ∀ t : Fin grid0.N, win0_0.index t = ![t.val / 16, t.val % 16, 0])
theorem idx1 : ∀ t : Fin cfg0.N, win0_1.index t = ![0, 0] :=
  (by decide +kernel : ∀ t : Fin grid0.N, win0_1.index t = ![0, 0])
theorem idx2 : ∀ t : Fin cfg0.N, win0_2.index t = ![0, 0] :=
  (by decide +kernel : ∀ t : Fin grid0.N, win0_2.index t = ![0, 0])
theorem idx3 : ∀ t : Fin cfg0.N, win0_3.index t = ![0, 0] :=
  (by decide +kernel : ∀ t : Fin grid0.N, win0_3.index t = ![0, 0])
theorem idx4 : ∀ t : Fin cfg0.N, win0_4.index t = ![0, 0] :=
  (by decide +kernel : ∀ t : Fin grid0.N, win0_4.index t = ![0, 0])
theorem idx5 : ∀ t : Fin cfg0.N, win0_5.index t = ![0, 0] :=
  (by decide +kernel : ∀ t : Fin grid0.N, win0_5.index t = ![0, 0])
theorem idx6 : ∀ t : Fin cfg0.N, win0_6.index t = ![0, 0] :=
  (by decide +kernel : ∀ t : Fin grid0.N, win0_6.index t = ![0, 0])
theorem idx7 : ∀ t : Fin cfg0.N, win0_7.index t = ![0, 0] :=
  (by decide +kernel : ∀ t : Fin grid0.N, win0_7.index t = ![0, 0])
theorem idx8 : ∀ t : Fin cfg0.N, win0_8.index t = ![0, 0] :=
  (by decide +kernel : ∀ t : Fin grid0.N, win0_8.index t = ![0, 0])
theorem idx9 : ∀ t : Fin cfg0.N, win0_9.index t = ![0, 0] :=
  (by decide +kernel : ∀ t : Fin grid0.N, win0_9.index t = ![0, 0])

theorem x_at (b : Fin 2) (j : Fin 16) (ht : t.val = 16 * b.val + j.val) (r : Fin 256) (k : Fin 1024) :
    iblk m c 0 t (ix3 0 r k) = m (c, Proc.tc.devRef main_arg0) (ix3 b ⟨256 * j.val + r.val, by omega⟩ k) := by
  blk_ext! [iblk, V, idx0 t]

theorem Wi_at (e : Fin 4384) (k : Fin 1024) : iblk m c 1 t (ix2 e k) = m (c, Proc.tc.devRef main_arg1) (ix2 e k) := by
  blk_ext! [iblk, V, idx1 t]

theorem cw_at (k : Fin 4) (ch : Fin 2304) : iblk m c 2 t (ix2 k ch) = m (c, Proc.tc.devRef main_arg2) (ix2 ch k) := by
  blk_ext! [iblk, V, idx2 t]

theorem cb_at (ch : Fin 2304) : iblk m c 3 t (ix2 0 ch) = m (c, Proc.tc.devRef main_arg3) (ix1 ch) := by
  blk_ext! [iblk, V, idx3 t]

theorem db_at (h : Fin 32) : iblk m c 4 t (ix2 0 h) = m (c, Proc.tc.devRef main_arg4) (ix1 h) := by
  blk_ext! [iblk, V, idx4 t]

theorem al_at (h : Fin 32) : iblk m c 5 t (ix2 0 h) = m (c, Proc.tc.devRef main_arg5) (ix1 h) := by
  blk_ext! [iblk, V, idx5 t]

theorem D_at (q : Fin 2048) : iblk m c 6 t (ix2 0 q) = m (c, Proc.tc.devRef main_arg6) (ix1 (Spec.head q)) := by
  blk_ext! [iblk, V, idx6 t]
  rfl

theorem nw_at (q : Fin 2048) : iblk m c 7 t (ix2 0 q) = m (c, Proc.tc.devRef main_arg7) (ix1 q) := by
  blk_ext! [iblk, V, idx7 t]

theorem Wo_at (d : Fin 1024) (q : Fin 2048) : iblk m c 8 t (ix2 d q) = m (c, Proc.tc.devRef main_arg8) (ix2 d q) := by
  blk_ext! [iblk, V, idx8 t]

theorem E_at (h : Fin 32) (q : Fin 2048) : (iblk m c 9 t (ix2 h q) : EReal) = if h = Spec.head q then (1 : EReal) else 0 := by
  refine Eq.trans ?_ (table_at h q)
  blk_simp [iblk, idx9 t]
  entry_read
  show FloatOps.ofBits FTy.bf16 (lit0 (S32x2048.rowMajor _)) = FloatOps.ofBits FTy.bf16 (lit0 (S32x2048.rowMajor _))
  refine congrArg (fun i => FloatOps.ofBits (F := Ideal) FTy.bf16 (lit0 (S32x2048.rowMajor i))) ?_
  blk_ext [idx9 t]

/-! ## The givens -/

theorem zx_eq (b : Fin 2) (j : Fin 16) (ht : t.val = 16 * b.val + j.val) (r : Fin 256) (e : Fin 4384) :
    zx (iblk m c 0 t) (iblk m c 1 t) (ix2 r e) = Spec.proj (args m c) b (256 * j.val + r.val) e := by
  rw [zx_at]
  unfold Spec.proj
  refine Finset.sum_congr rfl fun k _ => ?_
  rw [x_at m c t b j ht, Wi_at]
  refine congrArg₂ (· * · : EReal → EReal → EReal) ?_ rfl
  show _ = if h : 256 * j.val + r.val < 4096 then _ else _
  rw [dif_pos (by omega)]

theorem mid_eq (b : Fin 2) (j : Fin 16) (ht : t.val = 16 * b.val + j.val) (r : Fin 256) (ch : Fin 2304) :
    midOf (zx (iblk m c 0 t) (iblk m c 1 t)) (ix2 r ch) = Spec.padded (args m c) b (256 * j.val + r.val + 3) ch := by
  rw [Spec.padded, if_neg (by omega)]
  exact zx_eq m c t b j ht r ⟨2048 + ch.val, by omega⟩

theorem gate_eq (b : Fin 2) (j : Fin 16) (ht : t.val = 16 * b.val + j.val) (r : Fin 256) (q : Fin 2048) :
    gateOf (zx (iblk m c 0 t) (iblk m c 1 t)) (ix2 r q) = Spec.proj (args m c) b (256 * j.val + r.val) ⟨q.val, by omega⟩ := by
  refine Eq.trans ?_ (zx_eq m c t b j ht r ⟨q.val, by omega⟩)
  unfold gateOf
  exact congrArg (zx (iblk m c 0 t) (iblk m c 1 t)) (congrArg (ix2 r) (Fin.ext (Nat.zero_add _)))

theorem tap_at (x : FVec Ideal S4x2304 .f32) (k : Fin 4) (hk) (ch : Fin 2304) : tap x k.val hk (ix2 0 ch) = x (ix2 k ch) := by
  refine congrArg x (funext fun a => Fin.ext ?_)
  revert a
  rw [Fin.forall_fin_two]
  exact ⟨Nat.add_zero _, by show 0 + 1 * ch.val = ch.val; omega⟩

theorem meets (b : Fin 2) (j : Fin 16) (ht : t.val = 16 * b.val + j.val)
    (prev : FVec Ideal S259x2304 .f32) (st : FVec Ideal S128x2048 .f32)
    (hp : ∀ r : Fin 259, r.val < 3 → ∀ ch : Fin 2304, prev (ix2 r ch) = Spec.padded (args m c) b (256 * j.val + r.val) ch)
    (hs : ∀ (n : Fin 128) (q : Fin 2048), st (ix2 n q) = (Spec.state (args m c) b q n (256 * j.val) : EReal)) :
    Meets (args m c) b (256 * j.val) (given (iblk m c 0 t) (iblk m c 1 t) (iblk m c 2 t) (iblk m c 3 t) (iblk m c 4 t)
      (iblk m c 5 t) (iblk m c 6 t) (iblk m c 7 t) (iblk m c 8 t) (iblk m c 9 t) prev st) where
  gate r q := by exact gate_eq m c t b j ht r q
  dtr r h := by exact zx_eq m c t b j ht r ⟨4352 + h.val, by omega⟩
  e r ch := by
    show extOf prev _ (ix2 r ch) = _
    unfold extOf
    split
    · next h => exact hp r h ch
    · next h =>
      have h' : ¬ r.val < 3 := h
      refine (mid_eq m c t b j ht ⟨r.val - 3, by omega⟩ ch).trans ?_
      exact congrArg (fun l => Spec.padded (args m c) b l ch) (by show 256 * j.val + (r.val - 3) + 3 = _; omega)
  t0 ch := by exact (tap_at _ 0 _ ch).trans (cw_at m c t 0 ch)
  t1 ch := by exact (tap_at _ 1 _ ch).trans (cw_at m c t 1 ch)
  t2 ch := by exact (tap_at _ 2 _ ch).trans (cw_at m c t 2 ch)
  t3 ch := by exact (tap_at _ 3 _ ch).trans (cw_at m c t 3 ch)
  cb ch := by exact cb_at m c t ch
  db h := by exact db_at m c t h
  al h := by exact al_at m c t h
  d q := by exact D_at m c t q
  nw q := by exact nw_at m c t q
  Wo d q := by exact Wo_at m c t d q
  E h q := by exact E_at m c t h q
  st n q := by exact hs n q

end Cert.Chunk

end
-- ==== Proof.Result.lean ====
/- The kernel's result: by induction along a batch's points, what each leaves is the specification's, so its array is. -/
module

public import proofs.«01_k».proof.Proof.Points

@[expose] public section

set_option maxRecDepth 16384

noncomputable section

namespace Cert.Chunk

open Idealize.ShloMosaic Idealize.ShloMosaic.TcCoe Idealize.SL.Sem
open Cert.KernelIdeal Cert.KernelIdeal.Gen
open Cert.KernelIdeal.Value (G10 pt10Of loc10Of outsAt0_sweep)

variable (m : (ℓ : Loc nD τ sig) → Buf (Elt Ideal) ℓ) (c : Dev nD)

/-- What the point of batch `b`'s block `j` leaves: its rows of the result, the three rows it hands on, and the state. -/
structure Leaves (b : Fin 2) (j : Fin 16)
    (o : FVec Ideal S1x256x1024 .f32 × FVec Ideal S259x2304 .f32 × FVec Ideal S128x2048 .f32) : Prop where
  out : ∀ (r : Fin 256) (d : Fin 1024), o.1 (ix3 0 r d) = Spec.out (args m c) b (256 * j.val + r.val) d
  rows : ∀ r : Fin 259, r.val < 3 → ∀ ch : Fin 2304, o.2.1 (ix2 r ch) = Spec.padded (args m c) b (256 * (j.val + 1) + r.val) ch
  st : ∀ (n : Fin 128) (q : Fin 2048), o.2.2 (ix2 n q) = (Spec.state (args m c) b q n (256 * (j.val + 1)) : EReal)

theorem zero32_eq : (zero32 : EReal) = 0 := by
  unfold zero32
  exact IdealRules.sign_bit.ideal_zero .f32

variable (ht : ∀ c, Spec.Tame (args m c))
include ht

/-- A point whose givens meet the specification leaves the specification's. -/
theorem leaves_of (t : Fin cfg0.N) (b : Fin 2) (j : Fin 16) (htb : t.val = 16 * b.val + j.val)
    (prev : FVec Ideal S259x2304 .f32) (st : FVec Ideal S128x2048 .f32)
    (hp : ∀ r : Fin 259, r.val < 3 → ∀ ch : Fin 2304, prev (ix2 r ch) = Spec.padded (args m c) b (256 * j.val + r.val) ch)
    (hs : ∀ (n : Fin 128) (q : Fin 2048), st (ix2 n q) = (Spec.state (args m c) b q n (256 * j.val) : EReal))
    (o1 : FVec Ideal S1x256x1024 .f32) (o2 : FVec Ideal S259x2304 .f32) (o3 : FVec Ideal S128x2048 .f32)
    (I : In) (hI : I = given (iblk m c 0 t) (iblk m c 1 t) (iblk m c 2 t) (iblk m c 3 t) (iblk m c 4 t)
      (iblk m c 5 t) (iblk m c 6 t) (iblk m c 7 t) (iblk m c 8 t) (iblk m c 9 t) prev st)
    (h1 : o1 = Chunk.out I (cols (xdt I))) (h3 : o3 = stNext I (xdt I))
    (h2 : ∀ (r : Fin 259) (_ : r.val < 3) (ch : Fin 2304),
      o2 (ix2 r ch) = midOf (zx (iblk m c 0 t) (iblk m c 1 t)) (ix2 ⟨253 + r.val, by omega⟩ ch)) :
    Leaves m c b j (o1, o2, o3) := by
  have hM := meets m c t b j htb prev st hp hs
  rw [← hI] at hM
  constructor
  · intro r d
    show o1 (ix3 0 r d) = _
    rw [h1]
    exact out_eq hM (ht c) r d
  · intro r hr ch
    show o2 (ix2 r ch) = _
    rw [h2 r hr ch, mid_eq m c t b j htb]
    exact congrArg (fun l => Spec.padded (args m c) b l ch) (by show 256 * j.val + (253 + r.val) + 3 = _; omega)
  · intro n q
    show o3 (ix2 n q) = _
    rw [h3, stNext_eq hM (ht c)]
    rfl

theorem leaves_A (t : Fin cfg0.N) (b : Fin 2) (htb : t.val = 16 * b.val) : Leaves m c b 0 (outsAt0 m c t.val t.isLt) := by
  rw [outsAt0_A m c t (by omega)]
  refine leaves_of m c ht t b 0 htb (fun _ => zero32) (fun _ => zero32) (fun r hr ch => ?_) (fun n q => ?_) _ _ _ _ rfl ?_ ?_ ?_
  · rw [zero32_eq, Spec.padded, if_pos (by show 256 * 0 + r.val < 3; omega)]
  · rw [zero32_eq]; exact EReal.coe_zero.symm
  · exact out_A ..
  · exact state_A ..
  · exact fun r hr ch => rows_A (r := r) (hr := hr) (ch := ch) ..

theorem leaves_B (t : Fin cfg0.N) (b : Fin 2) (j : Fin 16) (j' : Fin 16) (hj : j'.val = j.val + 1) (htb : t.val = 16 * b.val + j'.val)
    (ih : Leaves m c b j (outsAt0 m c (t.val - 1) (Nat.lt_of_le_of_lt (Nat.sub_le _ _) t.isLt))) :
    Leaves m c b j' (outsAt0 m c t.val t.isLt) := by
  rw [outsAt0_B m c t (by omega)]
  refine leaves_of m c ht t b j' htb _ _ (fun r hr ch => ?_) (fun n q => ?_) _ _ _ _ rfl (out_B ..) (state_B ..)
    fun r hr ch => rows_B (r := r) (hr := hr) (ch := ch) ..
  · rw [hj]; exact ih.rows r hr ch
  · rw [hj]; exact ih.st n q

theorem leaves (b : Fin 2) : ∀ (j : ℕ) (hj : j < 16) (hn : 16 * b.val + j < cfg0.N),
    Leaves m c b ⟨j, hj⟩ (outsAt0 m c (16 * b.val + j) hn)
  | 0, _, hn => leaves_A m c ht ⟨16 * b.val, hn⟩ b rfl
  | j + 1, hj, hn => leaves_B m c ht ⟨16 * b.val + (j + 1), hn⟩ b ⟨j, by omega⟩ ⟨j + 1, hj⟩ rfl rfl
      (leaves b j (by omega) (Nat.lt_of_succ_lt hn))

/-- The kernel's array. -/
theorem G10_eq : G10 m c = fun i : S2x4096x1024.Idx => Spec.out (args m c) (i 0) (i 1 : Fin 4096).val (i 2) := by
  funext i
  have h0 : (i 0).val < 2 := (i 0).isLt
  have h1 : (i 1).val < 4096 := (i 1).isLt
  have hp : pt10Of i = 16 * (i 0).val + (i 1).val / 256 := by
    have h2 : (i 2).val < 1024 := (i 2).isLt
    show 16 * ((i 0).val / 1 - 0) + 1 * ((i 1).val / 256 - 0) + 1 * ((i 2).val / 1024 - 0) = _
    omega
  have hN : pt10Of i < cfg0.N := by rw [hp]; show _ < 32; omega
  unfold G10
  rw [dif_pos hN, ← outsAt0_sweep m c (pt10Of i) hN]
  have hL := leaves m c ht ⟨(i 0).val, h0⟩ ((i 1).val / 256) (by omega) (hp ▸ hN)
  have he : (outsAt0 m c (pt10Of i) hN).1 = (outsAt0 m c (16 * (i 0).val + (i 1).val / 256) (hp ▸ hN)).1 := by
    congr 1
    simp only [hp]
  rw [he]
  have hl : loc10Of i = ix3 0 ⟨(i 1).val % 256, by omega⟩ (i 2) := by
    have h2 : (i 2).val < 1024 := (i 2).isLt
    funext a
    refine Fin.ext ?_
    revert a
    rw [Fin.forall_fin_succ, Fin.forall_fin_two]
    exact ⟨Nat.mod_one _, rfl, Nat.mod_eq_of_lt h2⟩
  rw [hl]
  refine (hL.out _ _).trans ?_
  exact congrArg (fun l => Spec.out (args m c) (i 0) l (i 2)) (Nat.div_add_mod _ _)

end Cert.Chunk

end
-- ==== Proof.RefPre.lean ====
/- What the reference's operations before its loop compute, stretch by stretch, read at an index.

   A stretch is described at any contents `V` of the buffers it is entered with; what it reads is given as hypotheses, in the
   specification's words (`Spec.lean`). -/
module

public import proofs.«01_k».proof.Proof.Arrays
public import proofs.«01_k».proof.Proof.Gen.ReferenceIdeal.Run
public import Idealize.ShloMosaic.Lib.Pointwise
public import Idealize.ShloMosaic.Lib.StableHlo.ReadAt

@[expose] public section

set_option maxRecDepth 16384

noncomputable section

namespace Cert.RefPre

open Idealize.ShloMosaic Idealize.ShloMosaic.TcCoe Idealize.SL.Sem Idealize.ShloMosaic.StableHlo
open Cert.ReferenceIdeal Cert.ReferenceIdeal.Gen

variable (V : Valuation τ sig (Elt Ideal))

/-- The argument arrays among the buffers' contents. -/
def args : Spec.Args :=
  Spec.ofArrays (V (Proc.devRef .tc main_arg0)) (V (Proc.devRef .tc main_arg1)) (V (Proc.devRef .tc main_arg2)) (V (Proc.devRef .tc main_arg3))
    (V (Proc.devRef .tc main_arg4)) (V (Proc.devRef .tc main_arg5)) (V (Proc.devRef .tc main_arg6)) (V (Proc.devRef .tc main_arg7))
    (V (Proc.devRef .tc main_arg8))

/-! ## The projection -/

theorem v1_at (b : Fin 2) (l : Fin 4096) (q : Fin 2048) :
    after hostOps0 V (Proc.devRef .tc main_v1) (ix3 b l q) = Spec.proj (args V) b l ⟨q, by omega⟩ := by
  after_reads_at
  exact Finset.sum_congr rfl fun k _ => by simp [args, Spec.ofArrays]

theorem v2_at (b : Fin 2) (l : Fin 4096) (ch : Fin 2304) :
    after hostOps0 V (Proc.devRef .tc main_v2) (ix3 b l ch) = Spec.proj (args V) b l ⟨2048 + ch, by omega⟩ := by
  after_reads_at
  exact Finset.sum_congr rfl fun k _ => by simp [args, Spec.ofArrays]

theorem v3_at (b : Fin 2) (l : Fin 4096) (h : Fin 32) :
    after hostOps0 V (Proc.devRef .tc main_v3) (ix3 b l h) = Spec.proj (args V) b l ⟨4352 + h, by omega⟩ := by
  after_reads_at
  exact Finset.sum_congr rfl fun k _ => by simp [args, Spec.ofArrays]

theorem c_at : after hostOps0 V (Proc.devRef .tc main_c) = fun _ => 0#32 := by
  after_reads_simp
  rfl

/-! ## The convolution and its gate -/

variable {V} {a : Spec.Args}

theorem v4_at (h2 : ∀ (b : Fin 2) (l : Fin 4096) (ch : Fin 2304), V (Proc.devRef .tc main_v2) (ix3 b l ch) = Spec.proj a b l ⟨2048 + ch, by omega⟩)
    (hc : V (Proc.devRef .tc main_c) = fun _ => 0#32) (b : Fin 2) (l : Fin 4099) (ch : Fin 2304) :
    after hostOps0_1 V (Proc.devRef .tc main_v4) (ix3 b l ch) = Spec.padded a b l ch := by
  after_reads_at
  rw [hc, Spec.padded]
  by_cases h : (l : ℕ) < 3
  · rw [dif_neg (by omega), if_pos h]
    show (((0#32 : BitVec 32).toInt : ℝ) : EReal) = 0
    simp
  · rw [dif_pos (by omega), if_neg h, h2]

theorem v36_at (h4 : ∀ (b : Fin 2) (l : Fin 4099) (ch : Fin 2304), V (Proc.devRef .tc main_v4) (ix3 b l ch) = Spec.padded a b l ch)
    (hw : ∀ (ch : Fin 2304) (k : Fin 4), V (Proc.devRef .tc main_arg2) (ix2 ch k) = a.cw ch k)
    (hb : ∀ ch : Fin 2304, V (Proc.devRef .tc main_arg3) (ix1 ch) = a.cb ch) (b : Fin 2) (l : Fin 4096) (ch : Fin 2304) :
    after hostOps0_2 V (Proc.devRef .tc main_v36) (ix3 b l ch) = Spec.conv a b l ch := by
  after_reads_at
  rw [h4, h4, h4, h4, hw, hw, hw, hw, hb, Spec.conv]
  simp only [Nat.add_comm]

theorem v37_at (h36 : ∀ (b : Fin 2) (l : Fin 4096) (ch : Fin 2304), V (Proc.devRef .tc main_v36) (ix3 b l ch) = Spec.conv a b l ch)
    (b : Fin 2) (l : Fin 4096) (ch : Fin 2304) :
    after hostOps0_3 V (Proc.devRef .tc main_v37) (ix3 b l ch) = Spec.act a b l ch := by
  after_reads_at
  rw [h36]
  rfl

/-- A column of the convolution's first part: the state's input, by head. -/
def col (h : Fin 32) (p : Fin 64) : Fin 2048 := ⟨h * 64 + p, by omega⟩

theorem v39_at (h37 : ∀ (b : Fin 2) (l : Fin 4096) (ch : Fin 2304), V (Proc.devRef .tc main_v37) (ix3 b l ch) = Spec.act a b l ch)
    (b : Fin 2) (l : Fin 4096) (h : Fin 32) (p : Fin 64) :
    after hostOps0_4 V (Proc.devRef .tc main_v39) (ix4 b l h p) = Spec.xs a b l (col h p) := by
  after_reads_at
  rw [h37]; rfl

theorem v40_at (h37 : ∀ (b : Fin 2) (l : Fin 4096) (ch : Fin 2304), V (Proc.devRef .tc main_v37) (ix3 b l ch) = Spec.act a b l ch)
    (b : Fin 2) (l : Fin 4096) (n : Fin 128) :
    after hostOps0_4 V (Proc.devRef .tc main_v40) (ix3 b l n) = Spec.Bs a b l n := by
  after_reads_at
  rw [h37]; rfl

theorem v41_at (h37 : ∀ (b : Fin 2) (l : Fin 4096) (ch : Fin 2304), V (Proc.devRef .tc main_v37) (ix3 b l ch) = Spec.act a b l ch)
    (b : Fin 2) (l : Fin 4096) (n : Fin 128) :
    after hostOps0_4 V (Proc.devRef .tc main_v41) (ix3 b l n) = Spec.Cs a b l n := by
  after_reads_at
  rw [h37]; rfl

/-! ## The step sizes -/

theorem v44_at (h3 : ∀ (b : Fin 2) (l : Fin 4096) (h : Fin 32), V (Proc.devRef .tc main_v3) (ix3 b l h) = Spec.proj a b l ⟨4352 + h, by omega⟩)
    (hd : ∀ h : Fin 32, V (Proc.devRef .tc main_arg4) (ix1 h) = a.db h) (b : Fin 2) (l : Fin 4096) (h : Fin 32) :
    after hostOps0_4 V (Proc.devRef .tc main_v44) (ix3 b l h) = (Spec.proj a b l ⟨4352 + h, by omega⟩ + a.db h : EReal) := by
  after_reads_at
  rw [h3, hd]

theorem v45_at (h44 : ∀ (b : Fin 2) (l : Fin 4096) (h : Fin 32), V (Proc.devRef .tc main_v44) (ix3 b l h) = (Spec.proj a b l ⟨4352 + h, by omega⟩ + a.db h : EReal))
    (b : Fin 2) (l : Fin 4096) (h : Fin 32) :
    after hostOps0_5 V (Proc.devRef .tc main_v45) (ix3 b l h) = Spec.dt a b l h := by
  after_reads_at
  rw [if_neg (by simp), h44]
  rfl

/-! ## What the loop is entered with -/

theorem v61_0_at (h45 : ∀ (b : Fin 2) (l : Fin 4096) (h : Fin 32), V (Proc.devRef .tc main_v45) (ix3 b l h) = Spec.dt a b l h)
    (ha : ∀ h : Fin 32, V (Proc.devRef .tc main_arg5) (ix1 h) = a.al h) (l : Fin 4096) (b : Fin 2) (h : Fin 32) :
    after hostOps0_6 V (Proc.devRef .tc main_v61_0) (ix3 l b h) = Ideal.exp (Spec.dt a b l h * Spec.rate a h) := by
  after_reads_simp
  simp only [id_eq]
  pointwise
  rw [h45, ha]
  rfl

theorem v61_1_at (h45 : ∀ (b : Fin 2) (l : Fin 4096) (h : Fin 32), V (Proc.devRef .tc main_v45) (ix3 b l h) = Spec.dt a b l h)
    (h39 : ∀ (b : Fin 2) (l : Fin 4096) (h : Fin 32) (p : Fin 64), V (Proc.devRef .tc main_v39) (ix4 b l h p) = Spec.xs a b l (col h p))
    (l : Fin 4096) (b : Fin 2) (h : Fin 32) (p : Fin 64) :
    after hostOps0_6 V (Proc.devRef .tc main_v61_1) (ix4 l b h p) = (Spec.dt a b l h * Spec.xs a b l (col h p) : EReal) := by
  after_reads_simp
  simp only [id_eq]
  pointwise
  rw [h45, h39]

theorem v61_2_at (h40 : ∀ (b : Fin 2) (l : Fin 4096) (n : Fin 128), V (Proc.devRef .tc main_v40) (ix3 b l n) = Spec.Bs a b l n)
    (l : Fin 4096) (b : Fin 2) (n : Fin 128) :
    after hostOps0_6 V (Proc.devRef .tc main_v61_2) (ix3 l b n) = Spec.Bs a b l n := by
  after_reads_simp
  simp only [id_eq]
  pointwise
  rw [h40]

theorem v61_3_at (h41 : ∀ (b : Fin 2) (l : Fin 4096) (n : Fin 128), V (Proc.devRef .tc main_v41) (ix3 b l n) = Spec.Cs a b l n)
    (l : Fin 4096) (b : Fin 2) (n : Fin 128) :
    after hostOps0_6 V (Proc.devRef .tc main_v61_3) (ix3 l b n) = Spec.Cs a b l n := by
  after_reads_simp
  simp only [id_eq]
  pointwise
  rw [h41]

theorem v61_5_at (b : Fin 2) (h : Fin 32) (p : Fin 64) (n : Fin 128) :
    after hostOps0_6 V (Proc.devRef .tc main_v61_5) (ix4 b h p n) = (0 : EReal) := by
  after_reads_simp
  simp only [id_eq]
  pointwise

end Cert.RefPre

end
-- ==== Proof.RefLoop.lean ====
/- The reference's loop: one round on arrays, and what is carried after any number of rounds.

   Before round `k` the carried state is the specification's at position `k`, and the rows below `k` hold the state read out. -/
module

public import proofs.«01_k».proof.Proof.RefPre
public import Idealize.ShloMosaic.Lib.DynamicIndex
public import Idealize.ShloMosaic.Lib.Pipeline.Value
public import Idealize.ShloMosaic.Lib.WordArith.Masks

@[expose] public section

set_option maxRecDepth 16384

noncomputable section

namespace Cert.RefLoop

open Idealize.ShloMosaic Idealize.ShloMosaic.TcCoe Idealize.SL.Sem Idealize.ShloMosaic.StableHlo
open Cert.ReferenceIdeal Cert.ReferenceIdeal.Gen Cert.ReferenceIdeal.Value

theorem toInt_iv {k : ℕ} (hk : k < 4096) : (Scf.iv 0#32 1#32 k).toInt = (k : ℤ) := by
  rw [BitVec.toInt_eq_toNat_of_lt (by rw [WordArith.toNat_iv_zero_one k (by omega)]; omega), WordArith.toNat_iv_zero_one k (by omega)]

variable {V : Valuation τ sig (Elt Ideal)} {k : ℕ} (hk : k < 4096) (hV : V (Proc.devRef .tc main_v61_4) = fun _ => Scf.iv 0#32 1#32 k)

theorem start3 (hk : k < 4096) (a : Fin 3) :
    ((![fun _ => Scf.iv 0#32 1#32 k, constantI S_ 32 0#32, constantI S_ 32 0#32] : Fin 3 → IVec S_ 32) a (Shape.Idx.first h_S_)).toInt
      = ((![k, 0, 0] : Fin 3 → ℕ) a : ℤ) := by
  fin_cases a
  · exact toInt_iv hk
  · rfl
  · rfl

theorem start4 (hk : k < 4096) (a : Fin 4) :
    ((![fun _ => Scf.iv 0#32 1#32 k, constantI S_ 32 0#32, constantI S_ 32 0#32, constantI S_ 32 0#32] : Fin 4 → IVec S_ 32) a
      (Shape.Idx.first h_S_)).toInt = ((![k, 0, 0, 0] : Fin 4 → ℕ) a : ℤ) := by
  fin_cases a
  · exact toInt_iv hk
  · rfl
  · rfl
  · rfl

section
include hk

/-- The new state, of arrays: the old one decayed, plus the row's outer product. -/
theorem state_at (x5 : FVec Ideal S2x32x64x128 .f32) (x0 : FVec Ideal S4096x2x32 .f32) (x1 : FVec Ideal S4096x2x32x64 .f32)
    (x2 : FVec Ideal S4096x2x128 .f32) {s0 s2 : Fin 3 → ℤ} {s1 : Fin 4 → ℤ} (h0 : ∀ a, s0 a = ((![k, 0, 0] : Fin 3 → ℕ) a : ℤ))
    (h1 : ∀ a, s1 a = ((![k, 0, 0, 0] : Fin 4 → ℕ) a : ℤ)) (h2 : ∀ a, s2 a = ((![k, 0, 0] : Fin 3 → ℕ) a : ℤ))
    (b : Fin 2) (h : Fin 32) (p : Fin 64) (n : Fin 128) :
    addf (mulf x5 (broadcastInDim S2x32x64x128 ![0, 1, 2, 3] bcast_S2x32x1x1_S2x32x64x128_0_1_2_3
        (broadcastInDim S2x32x1x1 ![0, 1] bcast_S2x32_S2x32x1x1_0_1
          (shapeCast S2x32 (Host.dynamicSlice S1x2x32 x0 s0 sliceFits_S4096x2x32_S1x2x32) shapeCasts_S1x2x32_S2x32))))
      (mulf (broadcastInDim S2x32x64x128 ![0, 1, 2, 3] bcast_S2x32x64x1_S2x32x64x128_0_1_2_3
          (broadcastInDim S2x32x64x1 ![0, 1, 2] bcast_S2x32x64_S2x32x64x1_0_1_2
            (shapeCast S2x32x64 (Host.dynamicSlice S1x2x32x64 x1 s1 sliceFits_S4096x2x32x64_S1x2x32x64) shapeCasts_S1x2x32x64_S2x32x64)))
        (broadcastInDim S2x32x64x128 ![0, 1, 2, 3] bcast_S2x1x1x128_S2x32x64x128_0_1_2_3
          (broadcastInDim S2x1x1x128 ![0, 3] bcast_S2x128_S2x1x1x128_0_3
            (shapeCast S2x128 (Host.dynamicSlice S1x2x128 x2 s2 sliceFits_S4096x2x128_S1x2x128) shapeCasts_S1x2x128_S2x128))))
      (ix4 b h p n)
      = x5 (ix4 b h p n) * x0 (ix3 ⟨k, hk⟩ b h) + x1 (ix4 ⟨k, hk⟩ b h p) * x2 (ix3 ⟨k, hk⟩ b n) := by
  rw [Host.dynamicSlice_eq_extractStridedSlice S1x2x32 x0 s0 ![k, 0, 0] sliceFits_S4096x2x32_S1x2x32 ⟨rfl, fun a => by fin_cases a <;> simp; omega⟩ h0,
    Host.dynamicSlice_eq_extractStridedSlice S1x2x32x64 x1 s1 ![k, 0, 0, 0] sliceFits_S4096x2x32x64_S1x2x32x64 ⟨rfl, fun a => by fin_cases a <;> simp; omega⟩ h1,
    Host.dynamicSlice_eq_extractStridedSlice S1x2x128 x2 s2 ![k, 0, 0] sliceFits_S4096x2x128_S1x2x128 ⟨rfl, fun a => by fin_cases a <;> simp; omega⟩ h2]
  pointwise

/-- The outputs, of arrays: the row written is the new state read out. -/
theorem rows_at (x6 : FVec Ideal S4096x2x32x64 .f32) (y : FVec Ideal S2x32x64x128 .f32) (x3 : FVec Ideal S4096x2x128 .f32)
    {s3 : Fin 3 → ℤ} {s6 : Fin 4 → ℤ} (h3 : ∀ a, s3 a = ((![k, 0, 0] : Fin 3 → ℕ) a : ℤ))
    (h6 : ∀ a, s6 a = ((![k, 0, 0, 0] : Fin 4 → ℕ) a : ℤ)) (l : Fin 4096) (b : Fin 2) (h : Fin 32) (p : Fin 64) :
    Host.dynamicUpdateSlice x6 (broadcastInDim S1x2x32x64 ![1, 2, 3] bcast_S2x32x64_S1x2x32x64_1_2_3
        (Host.dotGeneral dot_S2x32x64x128_S2x128_S2x32x64_3_1_12_n_0_0 none y
          (shapeCast S2x128 (Host.dynamicSlice S1x2x128 x3 s3 sliceFits_S4096x2x128_S1x2x128) shapeCasts_S1x2x128_S2x128)))
      s6 sliceFits_S4096x2x32x64_S1x2x32x64 (ix4 l b h p)
      = if (l : ℕ) = k then ∑ n : Fin 128, y (ix4 b h p n) * x3 (ix3 ⟨k, hk⟩ b n) else x6 (ix4 l b h p) := by
  rw [Host.dynamicSlice_eq_extractStridedSlice S1x2x128 x3 s3 ![k, 0, 0] sliceFits_S4096x2x128_S1x2x128 ⟨rfl, fun a => by fin_cases a <;> simp; omega⟩ h3,
    Host.dynamicUpdateSlice_eq_updateSlice x6 _ s6 sliceFits_S4096x2x32x64_S1x2x32x64 ![k, 0, 0, 0] (fun a => by rw [h6]; fin_cases a <;> simp; omega)
      ⟨rfl, fun a => by fin_cases a <;> simp; omega⟩]
  pointwise
  by_cases hl : (l : ℕ) = k
  · rw [dif_pos (by omega), if_pos hl]
  · rw [dif_neg (by omega), if_neg hl]

end

include hk hV

theorem step5_at (b : Fin 2) (h : Fin 32) (p : Fin 64) (n : Fin 128) :
    step_main_v61_5 V (ix4 b h p n)
      = (show EReal from V (Proc.devRef .tc main_v61_5) (ix4 b h p n)) * (show EReal from V (Proc.devRef .tc main_v61_0) (ix3 ⟨k, hk⟩ b h))
        + (show EReal from V (Proc.devRef .tc main_v61_1) (ix4 ⟨k, hk⟩ b h p)) * (show EReal from V (Proc.devRef .tc main_v61_2) (ix3 ⟨k, hk⟩ b n)) := by
  simp only [step_main_v61_5, res_main_while0b_v96, hV, id_eq]
  exact state_at hk (V (Proc.devRef .tc main_v61_5)) (V (Proc.devRef .tc main_v61_0)) (V (Proc.devRef .tc main_v61_1)) (V (Proc.devRef .tc main_v61_2)) (start3 hk) (start4 hk) (start3 hk) b h p n

theorem step6_at (l : Fin 4096) (b : Fin 2) (h : Fin 32) (p : Fin 64) :
    step_main_v61_6 V (ix4 l b h p)
      = if (l : ℕ) = k then
          ∑ n : Fin 128, (show EReal from step_main_v61_5 V (ix4 b h p n)) * (show EReal from V (Proc.devRef .tc main_v61_3) (ix3 ⟨k, hk⟩ b n))
        else (show EReal from V (Proc.devRef .tc main_v61_6) (ix4 l b h p)) := by
  simp only [step_main_v61_6, hV, id_eq]
  exact rows_at hk (V (Proc.devRef .tc main_v61_6)) (res_main_while0b_v96 V) (V (Proc.devRef .tc main_v61_3)) (start3 hk) (start4 hk) l b h p

omit hk hV

/-! ## The loop, round by round -/

open Cert.RefPre (col)

/-- What the loop is entered with, in the specification's words. -/
structure Entry (E : Valuation τ sig (Elt Ideal)) (a : Spec.Args) : Prop where
  decay : ∀ (l : Fin 4096) (b : Fin 2) (h : Fin 32), E (Proc.devRef .tc main_v61_0) (ix3 l b h) = Ideal.exp (Spec.dt a b l h * Spec.rate a h)
  gain : ∀ (l : Fin 4096) (b : Fin 2) (h : Fin 32) (p : Fin 64),
    E (Proc.devRef .tc main_v61_1) (ix4 l b h p) = (Spec.dt a b l h * Spec.xs a b l (col h p) : EReal)
  dirIn : ∀ (l : Fin 4096) (b : Fin 2) (n : Fin 128), E (Proc.devRef .tc main_v61_2) (ix3 l b n) = Spec.Bs a b l n
  dirOut : ∀ (l : Fin 4096) (b : Fin 2) (n : Fin 128), E (Proc.devRef .tc main_v61_3) (ix3 l b n) = Spec.Cs a b l n
  zero : ∀ (b : Fin 2) (h : Fin 32) (p : Fin 64) (n : Fin 128), E (Proc.devRef .tc main_v61_5) (ix4 b h p n) = (0 : EReal)

theorem head_col (h : Fin 32) (p : Fin 64) : Spec.head (col h p) = h := by
  apply Fin.ext
  show (h.val * 64 + p.val) / 64 = h.val
  omega

variable (m : (ℓ : Loc nD τ sig) → Buf (Elt Ideal) ℓ) {c : Dev nD} {a : Spec.Args}

theorem atK_succ (k : ℕ) {j : Ref sig .tc} (hj : j ∈ carriedRefs) :
    atK m (k + 1) c (Proc.devRef .tc j) = STEP (atK m k c) (Proc.devRef .tc j) := trip_agree (atK m k c) j hj

/-- The loop's rows stay as they were. -/
theorem atK_rows (k : ℕ) : atK m k c (Proc.devRef .tc main_v61_0) = entryContents preI m c (Proc.devRef .tc main_v61_0)
    ∧ atK m k c (Proc.devRef .tc main_v61_1) = entryContents preI m c (Proc.devRef .tc main_v61_1)
    ∧ atK m k c (Proc.devRef .tc main_v61_2) = entryContents preI m c (Proc.devRef .tc main_v61_2)
    ∧ atK m k c (Proc.devRef .tc main_v61_3) = entryContents preI m c (Proc.devRef .tc main_v61_3) := by
  induction k with
  | zero => exact ⟨rfl, rfl, rfl, rfl⟩
  | succ k ih =>
    obtain ⟨h0, h1, h2, h3⟩ := ih
    exact ⟨((atK_succ m k (by decide)).trans (STEP_main_v61_0 _)).trans h0, ((atK_succ m k (by decide)).trans (STEP_main_v61_1 _)).trans h1,
      ((atK_succ m k (by decide)).trans (STEP_main_v61_2 _)).trans h2, ((atK_succ m k (by decide)).trans (STEP_main_v61_3 _)).trans h3⟩

variable (ht : Spec.Tame a) (hE : Entry (entryContents preI m c) a)
include ht hE

/-- One round of the state. -/
theorem step_state {k : ℕ} (hk : k < 4096) (b : Fin 2) (h : Fin 32) (p : Fin 64) (n : Fin 128)
    (ih : atK m k c (Proc.devRef .tc main_v61_5) (ix4 b h p n) = ((Spec.state a b (col h p) n k : ℝ) : EReal)) :
    step_main_v61_5 (atK m k c) (ix4 b h p n) = ((Spec.state a b (col h p) n (k + 1) : ℝ) : EReal) := by
  obtain ⟨h0, h1, h2, -⟩ := atK_rows m (c := c) k
  rw [step5_at hk (atK_ctr m c k), h0, h1, h2, ih, hE.decay, hE.gain, hE.dirIn]
  show ((Spec.state a b (col h p) n k : ℝ) : EReal) * Ideal.exp (Spec.dt a b k h * Spec.rate a h)
    + Spec.dt a b k h * Spec.xs a b k (col h p) * Spec.Bs a b k n = _
  have hg := Spec.gain_eq ht b (col h p) k
  rw [head_col] at hg
  rw [Spec.decay_eq ht, hg, Spec.Bs_eq ht, Ideal.exp_coe, ← EReal.coe_mul, ← EReal.coe_mul, ← EReal.coe_add, Spec.state, Spec.state, head_col]
  rfl

/-- Before round `k` the carried state is the specification's. -/
theorem state_atK {k : ℕ} (hk : k ≤ 4096) (b : Fin 2) (h : Fin 32) (p : Fin 64) (n : Fin 128) :
    atK m k c (Proc.devRef .tc main_v61_5) (ix4 b h p n) = ((Spec.state a b (col h p) n k : ℝ) : EReal) := by
  induction k with
  | zero => exact (hE.zero b h p n).trans EReal.coe_zero.symm
  | succ k ih =>
    rw [atK_succ m k (by decide), STEP_main_v61_5]
    exact step_state m ht hE (by omega) b h p n (ih (by omega))

/-- Before round `k` the rows below `k` hold the state read out. -/
theorem rows_atK {k : ℕ} (hk : k ≤ 4096) (l : Fin 4096) (hl : (l : ℕ) < k) (b : Fin 2) (h : Fin 32) (p : Fin 64) :
    atK m k c (Proc.devRef .tc main_v61_6) (ix4 l b h p) = Spec.ssm a b l (col h p) := by
  induction k with
  | zero => omega
  | succ k ih =>
    rw [atK_succ m k (by decide), STEP_main_v61_6, step6_at (by omega) (atK_ctr m c k)]
    split
    · rename_i hlk
      obtain ⟨-, -, -, h3⟩ := atK_rows m (c := c) k
      rw [Spec.ssm, Spec.coe_sum]
      refine Finset.sum_congr (M := EReal) rfl fun n _ => ?_
      rw [step_state m ht hE (by omega) b h p n (state_atK m ht hE (by omega) b h p n), h3, hE.dirOut, EReal.coe_mul, ← Spec.Cs_eq ht, hlk]
    · exact ih (by omega) (by omega)

end Cert.RefLoop

end
-- ==== Proof.RefRun.lean ====
/- The reference, run: its result array holds the specification's result, and its arguments are left as they were. -/
module

public import proofs.«01_k».proof.Proof.RefLoop
public import Idealize.ShloMosaic.Lib.Quiescent

@[expose] public section

set_option maxRecDepth 16384

noncomputable section

namespace Cert.RefRun

open Idealize.ShloMosaic Idealize.ShloMosaic.TcCoe Idealize.SL.Sem Idealize.ShloMosaic.StableHlo
open Cert.ReferenceIdeal Cert.ReferenceIdeal.Gen Cert.ReferenceIdeal.Value
open Cert.RefPre (col)

/-! ## What no stretch writes -/

/-- The references that the stretches before the loop, the loop and the stretches after it write. -/
abbrev written0 : List (Ref sig .tc) := hostOps0_W ++ hostOps0_1_W ++ hostOps0_2_W ++ hostOps0_3_W ++ hostOps0_4_W ++ hostOps0_5_W ++ hostOps0_6_W
abbrev writtenK : List (Ref sig .tc) :=
  condOps_W ++ while0Ops0_W ++ while0Ops0_1_W ++ while0Ops0_2_W ++ while0Ops0_3_W ++ while0Ops0_4_W ++ while0Ops0_5_W ++ while0Ops0_6_W
abbrev hostOps0_7_W : List (Ref sig .tc) := [main_v62, main_v63, main_v64, main_v65, main_v66, main_v67]
abbrev hostOps0_8_W : List (Ref sig .tc) :=
  [main_call8_v0, main_call8_v1, main_call8_cst, main_call8_v2, main_call8_v3, main_call8_cst_0, main_call8_v4, main_call8_v5, main_v68]
abbrev hostOps0_9_W : List (Ref sig .tc) :=
  [main_v69, main_v70, main_cst_3, main_v71, main_v72, main_cst_4, main_v73, main_v74, main_cst_5, main_v75, main_v76, main_v77, main_v78, main_v79,
    main_v80, main_v81, main_v82, main_v83]

section
variable {F : FTy → Type} [FloatOps F]
theorem hostOps0_7_writes : (hostOps0_7 : List (HloOp τ sig (Elt F))).Forall fun op => op.writes ⊆ (hostOps0_7_W.map (Proc.devRef (τ := τ) .tc)).toFinset :=
  forall_writes_sub_of_map rfl
theorem hostOps0_8_writes : (hostOps0_8 : List (HloOp τ sig (Elt F))).Forall fun op => op.writes ⊆ (hostOps0_8_W.map (Proc.devRef (τ := τ) .tc)).toFinset :=
  forall_writes_sub_of_map rfl
theorem hostOps0_9_writes : (hostOps0_9 : List (HloOp τ sig (Elt F))).Forall fun op => op.writes ⊆ (hostOps0_9_W.map (Proc.devRef (τ := τ) .tc)).toFinset :=
  forall_writes_sub_of_map rfl
end

variable (m : (ℓ : Loc nD τ sig) → Buf (Elt Ideal) ℓ) (c : Dev nD)

/-- The contents after the stretches before the loop, one by one. -/
abbrev S0 : Valuation τ sig (Elt Ideal) := launchContents m c
abbrev S1 : Valuation τ sig (Elt Ideal) := after hostOps0 (S0 m c)
abbrev S2 : Valuation τ sig (Elt Ideal) := after hostOps0_1 (S1 m c)
abbrev S3 : Valuation τ sig (Elt Ideal) := after hostOps0_2 (S2 m c)
abbrev S4 : Valuation τ sig (Elt Ideal) := after hostOps0_3 (S3 m c)
abbrev S5 : Valuation τ sig (Elt Ideal) := after hostOps0_4 (S4 m c)
abbrev S6 : Valuation τ sig (Elt Ideal) := after hostOps0_5 (S5 m c)

theorem keep1 (r : Ref sig .tc) (h : r ∉ hostOps0_W) : S1 m c (Proc.devRef .tc r) = S0 m c (Proc.devRef .tc r) := after_of_writes_sub _ _ hostOps0_writes h
theorem keep2 (r : Ref sig .tc) (h : r ∉ hostOps0_1_W) : S2 m c (Proc.devRef .tc r) = S1 m c (Proc.devRef .tc r) := after_of_writes_sub _ _ hostOps0_1_writes h
theorem keep3 (r : Ref sig .tc) (h : r ∉ hostOps0_2_W) : S3 m c (Proc.devRef .tc r) = S2 m c (Proc.devRef .tc r) := after_of_writes_sub _ _ hostOps0_2_writes h
theorem keep4 (r : Ref sig .tc) (h : r ∉ hostOps0_3_W) : S4 m c (Proc.devRef .tc r) = S3 m c (Proc.devRef .tc r) := after_of_writes_sub _ _ hostOps0_3_writes h
theorem keep5 (r : Ref sig .tc) (h : r ∉ hostOps0_4_W) : S5 m c (Proc.devRef .tc r) = S4 m c (Proc.devRef .tc r) := after_of_writes_sub _ _ hostOps0_4_writes h
theorem keep6 (r : Ref sig .tc) (h : r ∉ hostOps0_5_W) : S6 m c (Proc.devRef .tc r) = S5 m c (Proc.devRef .tc r) := after_of_writes_sub _ _ hostOps0_5_writes h
theorem keep7 (r : Ref sig .tc) (h : r ∉ hostOps0_6_W) : entryContents preI m c (Proc.devRef .tc r) = S6 m c (Proc.devRef .tc r) :=
  after_of_writes_sub _ (S6 m c) hostOps0_6_writes h

/-- What no stretch before the loop writes is as it was at the launch. -/
theorem keep_pre (r : Ref sig .tc) (h : r ∉ written0) : entryContents preI m c (Proc.devRef .tc r) = S0 m c (Proc.devRef .tc r) := by
  simp only [List.mem_append, not_or] at h
  obtain ⟨⟨⟨⟨⟨⟨h0, h1⟩, h2⟩, h3⟩, h4⟩, h5⟩, h6⟩ := h
  rw [keep7 m c r h6, keep6 m c r h5, keep5 m c r h4, keep4 m c r h3, keep3 m c r h2, keep2 m c r h1, keep1 m c r h0]

/-- What no operation of the loop writes is as it was at the loop's entry. -/
theorem keep_trip (X : Valuation τ sig (Elt Ideal)) (r : Ref sig .tc) (h : r ∉ writtenK) :
    afterL bodyI (after condOps X) (Proc.devRef .tc r) = X (Proc.devRef .tc r) := by
  simp only [List.mem_append, not_or] at h
  obtain ⟨⟨⟨⟨⟨⟨⟨hc, h0⟩, h1⟩, h2⟩, h3⟩, h4⟩, h5⟩, h6⟩ := h
  simp only [afterL_cons, afterL_nil]
  rw [after_of_writes_sub _ _ while0Ops0_6_writes h6, after_of_writes_sub _ _ while0Ops0_5_writes h5, after_of_writes_sub _ _ while0Ops0_4_writes h4,
    after_of_writes_sub _ _ while0Ops0_3_writes h3, after_of_writes_sub _ _ while0Ops0_2_writes h2, after_of_writes_sub _ _ while0Ops0_1_writes h1,
    after_of_writes_sub _ _ while0Ops0_writes h0, after_of_writes_sub _ _ condOps_writes hc]

theorem keep_loop (k : ℕ) (r : Ref sig .tc) (h : r ∉ writtenK) :
    atK m k c (Proc.devRef .tc r) = entryContents preI m c (Proc.devRef .tc r) := by
  induction k with
  | zero => rfl
  | succ k ih => exact (keep_trip _ r h).trans ih

/-- The contents after the loop. -/
abbrev T0 : Valuation τ sig (Elt Ideal) := after condOps (atK m 4096 c)

theorem keep_T0 (r : Ref sig .tc) (h : r ∉ writtenK) : T0 m c (Proc.devRef .tc r) = entryContents preI m c (Proc.devRef .tc r) :=
  (after_of_writes_sub _ _ condOps_writes (by simp only [List.mem_append, not_or] at h; exact h.1.1.1.1.1.1.1)).trans (keep_loop m c 4096 r h)

abbrev final : Valuation τ sig (Elt Ideal) := finalContents condOps preI bodyI postI 4096 m c

theorem keep_final (r : Ref sig .tc) (h : r ∉ written0 ++ writtenK ++ hostOps0_7_W ++ hostOps0_8_W ++ hostOps0_9_W) :
    final m c (Proc.devRef .tc r) = m ((c.tc : Thread nD τ).loc r) := by
  rw [List.mem_append, List.mem_append, List.mem_append, List.mem_append] at h
  simp only [not_or] at h
  obtain ⟨⟨⟨⟨h0, hk⟩, h7⟩, h8⟩, h9⟩ := h
  show after hostOps0_9 (after hostOps0_8 (after hostOps0_7 (T0 m c))) _ = _
  rw [after_of_writes_sub _ _ hostOps0_9_writes h9, after_of_writes_sub _ _ hostOps0_8_writes h8, after_of_writes_sub _ _ hostOps0_7_writes h7,
    keep_T0 m c r hk, keep_pre m c r h0]

/-! ## Up to the loop -/

/-- The argument arrays of a memory. -/
abbrev args : Spec.Args := RefPre.args (S0 m c)

theorem w37 (b : Fin 2) (l : Fin 4096) (ch : Fin 2304) : S4 m c (Proc.devRef .tc main_v37) (ix3 b l ch) = Spec.act (args m c) b l ch :=
  RefPre.v37_at (RefPre.v36_at (RefPre.v4_at (RefPre.v2_at _) (RefPre.c_at _))
    (fun ch k => by show S2 m c (Proc.devRef .tc main_arg2) (ix2 ch k) = _; rw [keep2 m c main_arg2 (by decide), keep1 m c main_arg2 (by decide)]; rfl)
    (fun ch => by show S2 m c (Proc.devRef .tc main_arg3) (ix1 ch) = _; rw [keep2 m c main_arg3 (by decide), keep1 m c main_arg3 (by decide)]; rfl)) b l ch

theorem w44 (b : Fin 2) (l : Fin 4096) (h : Fin 32) :
    S5 m c (Proc.devRef .tc main_v44) (ix3 b l h) = (Spec.proj (args m c) b l ⟨4352 + h, by omega⟩ + (args m c).db h : EReal) :=
  RefPre.v44_at
    (fun b l h => by rw [keep4 m c main_v3 (by decide), keep3 m c main_v3 (by decide), keep2 m c main_v3 (by decide)]; exact RefPre.v3_at _ b l h)
    (fun h => by rw [keep4 m c main_arg4 (by decide), keep3 m c main_arg4 (by decide), keep2 m c main_arg4 (by decide), keep1 m c main_arg4 (by decide)]; rfl)
    b l h

theorem w45 (b : Fin 2) (l : Fin 4096) (h : Fin 32) : S6 m c (Proc.devRef .tc main_v45) (ix3 b l h) = Spec.dt (args m c) b l h :=
  RefPre.v45_at (w44 m c) b l h

theorem w39 (b : Fin 2) (l : Fin 4096) (h : Fin 32) (p : Fin 64) :
    S6 m c (Proc.devRef .tc main_v39) (ix4 b l h p) = Spec.xs (args m c) b l (col h p) := by
  rw [keep6 m c main_v39 (by decide)]
  exact RefPre.v39_at (w37 m c) b l h p

/-- The loop is entered with the specification's rows and a zero state. -/
theorem entry : RefLoop.Entry (entryContents preI m c) (args m c) where
  decay := RefPre.v61_0_at (w45 m c) fun h => by
    show S6 m c (Proc.devRef .tc main_arg5) (ix1 h) = _
    rw [keep6 m c main_arg5 (by decide), keep5 m c main_arg5 (by decide), keep4 m c main_arg5 (by decide), keep3 m c main_arg5 (by decide),
      keep2 m c main_arg5 (by decide), keep1 m c main_arg5 (by decide)]
    rfl
  gain := RefPre.v61_1_at (w45 m c) (w39 m c)
  dirIn := RefPre.v61_2_at fun b l n => by show S6 m c (Proc.devRef .tc main_v40) (ix3 b l n) = _; rw [keep6 m c main_v40 (by decide)]; exact RefPre.v40_at (w37 m c) b l n
  dirOut := RefPre.v61_3_at fun b l n => by show S6 m c (Proc.devRef .tc main_v41) (ix3 b l n) = _; rw [keep6 m c main_v41 (by decide)]; exact RefPre.v41_at (w37 m c) b l n
  zero := RefPre.v61_5_at

/-! ## After the loop -/

section
variable {V : Valuation τ sig (Elt Ideal)} {a : Spec.Args}

theorem v67_at (h6 : ∀ (l : Fin 4096) (b : Fin 2) (h : Fin 32) (p : Fin 64), V (Proc.devRef .tc main_v61_6) (ix4 l b h p) = Spec.ssm a b l (col h p))
    (h39 : ∀ (b : Fin 2) (l : Fin 4096) (h : Fin 32) (p : Fin 64), V (Proc.devRef .tc main_v39) (ix4 b l h p) = Spec.xs a b l (col h p))
    (hD : ∀ h : Fin 32, V (Proc.devRef .tc main_arg6) (ix1 h) = a.D h) (b : Fin 2) (l : Fin 4096) (q : Fin 2048) :
    after hostOps0_7 V (Proc.devRef .tc main_v67) (ix3 b l q) = (Spec.ssm a b l q + Spec.xs a b l q * a.D (Spec.head q) : EReal) := by
  after_reads_at
  have hq : col ⟨q / 64, by omega⟩ ⟨q % 64, by omega⟩ = q := Fin.ext (show q.val / 64 * 64 + q.val % 64 = q.val by omega)
  rw [h6, h39, hD, hq, mul_comm (a.D _)]
  rfl

theorem v68_at (h1 : ∀ (b : Fin 2) (l : Fin 4096) (q : Fin 2048), V (Proc.devRef .tc main_v1) (ix3 b l q) = Spec.proj a b l ⟨q, by omega⟩)
    (b : Fin 2) (l : Fin 4096) (q : Fin 2048) :
    after hostOps0_8 V (Proc.devRef .tc main_v68) (ix3 b l q) = Spec.silu (Spec.proj a b l ⟨q, by omega⟩) := by
  after_reads_at
  rw [h1]
  rfl

theorem v83_at
    (h67 : ∀ (b : Fin 2) (l : Fin 4096) (q : Fin 2048), V (Proc.devRef .tc main_v67) (ix3 b l q) = (Spec.ssm a b l q + Spec.xs a b l q * a.D (Spec.head q) : EReal))
    (h68 : ∀ (b : Fin 2) (l : Fin 4096) (q : Fin 2048), V (Proc.devRef .tc main_v68) (ix3 b l q) = Spec.silu (Spec.proj a b l ⟨q, by omega⟩))
    (hw : ∀ q : Fin 2048, V (Proc.devRef .tc main_arg7) (ix1 q) = a.nw q)
    (ho : ∀ (d : Fin 1024) (q : Fin 2048), V (Proc.devRef .tc main_arg8) (ix2 d q) = a.Wo d q) (b : Fin 2) (l : Fin 4096) (d : Fin 1024) :
    after hostOps0_9 V (Proc.devRef .tc main_v83) (ix3 b l d) = Spec.out a b l d := by
  after_reads_at
  simp only [h67, h68, hw, ho]
  rfl

end

/-! ## The run -/

/-- The result array, as the specification gives it. -/
def result (a : Spec.Args) : FVec Ideal S2x4096x1024 .f32 := fun i => Spec.out a (i 0) (i 1 : Fin 4096) (i 2)

variable {m c}

theorem v83_eq (ht : Spec.Tame (args m c)) : final m c (Proc.devRef .tc main_v83) = result (args m c) := by
  funext i
  obtain ⟨b, l, d, rfl⟩ : ∃ (b : Fin 2) (l : Fin 4096) (d : Fin 1024), i = ix3 b l d := ⟨_, _, _, eq_ix3 i⟩
  show after hostOps0_9 (after hostOps0_8 (after hostOps0_7 (T0 m c))) (Proc.devRef .tc main_v83) (ix3 b l d) = Spec.out (args m c) b l d
  have keep8 : ∀ r : Ref sig .tc, r ∉ hostOps0_8_W → r ∉ hostOps0_7_W → r ∉ writtenK →
      after hostOps0_8 (after hostOps0_7 (T0 m c)) (Proc.devRef .tc r) = entryContents preI m c (Proc.devRef .tc r) := fun r h8 h7 hk => by
    rw [after_of_writes_sub _ _ hostOps0_8_writes h8, after_of_writes_sub _ _ hostOps0_7_writes h7, keep_T0 m c r hk]
  refine v83_at (fun b l q => ?_) (v68_at fun b l q => ?_) (fun q => ?_) (fun d q => ?_) b l d
  · rw [after_of_writes_sub _ _ hostOps0_8_writes (by decide)]
    refine v67_at (fun l b h p => ?_) (fun b l h p => ?_) (fun h => ?_) b l q
    · show after condOps (atK m 4096 c) (Proc.devRef .tc main_v61_6) (ix4 l b h p) = _
      rw [cond_keeps (atK m 4096 c) main_v61_6 (by decide)]
      exact RefLoop.rows_atK m ht (entry m c) le_rfl l l.2 b h p
    · rw [keep_T0 m c main_v39 (by decide), keep7 m c main_v39 (by decide)]
      exact w39 m c b l h p
    · rw [keep_T0 m c main_arg6 (by decide), keep_pre m c main_arg6 (by decide)]
      rfl
  · rw [after_of_writes_sub _ _ hostOps0_7_writes (by decide), keep_T0 m c main_v1 (by decide), keep7 m c main_v1 (by decide),
      keep6 m c main_v1 (by decide), keep5 m c main_v1 (by decide), keep4 m c main_v1 (by decide), keep3 m c main_v1 (by decide),
      keep2 m c main_v1 (by decide)]
    exact RefPre.v1_at _ b l q
  · rw [keep8 main_arg7 (by decide) (by decide) (by decide), keep_pre m c main_arg7 (by decide)]
    rfl
  · rw [keep8 main_arg8 (by decide) (by decide) (by decide), keep_pre m c main_arg8 (by decide)]
    rfl

variable (m) (ρ : Dev nD → PrngReg)

/-- No run of the reference changes its arguments, nor leaves a counter off zero. -/
theorem frame : θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  (θ_run defs _ _).mono (fun r h => ⟨fun c =>
    ⟨(h c main_arg0 rfl).trans (keep_final m c _ (by decide)), (h c main_arg1 rfl).trans (keep_final m c _ (by decide)),
      (h c main_arg2 rfl).trans (keep_final m c _ (by decide)), (h c main_arg3 rfl).trans (keep_final m c _ (by decide)),
      (h c main_arg4 rfl).trans (keep_final m c _ (by decide)), (h c main_arg5 rfl).trans (keep_final m c _ (by decide)),
      (h c main_arg6 rfl).trans (keep_final m c _ (by decide)), (h c main_arg7 rfl).trans (keep_final m c _ (by decide)),
      (h c main_arg8 rfl).trans (keep_final m c _ (by decide))⟩, sem_eq_zero_of_no_sems rfl _⟩) (run_fold m ρ)

/-- With tame arguments the reference ends with the specification's result. -/
theorem run (ht : ∀ c, Spec.Tame (args m c)) :
    θ_run (defs (F := Ideal)) (onTc (τ := τ) (main (F := Ideal))) ⟨m, fun _ => 0, ρ⟩ (fun r => ∀ c : Dev nD,
      r.2.mem ((c.tc : Thread nD τ).loc main_v83) = result (args m c)) :=
  (θ_run defs _ _).mono (fun _ h c => (h c main_v83 rfl).trans (v83_eq (ht c))) (run_fold m ρ)

end Cert.RefRun

end
-- ==== Proof.Pre.lean ====
/- The precondition in the specification's terms: the entries the recurrence is fed from are real numbers, and no rate's
   logarithm is `+∞`. -/
module

public import proofs.«01_k».proof.Pre_tame
public import proofs.«01_k».proof.Proof.Arrays
public import Idealize.ShloMosaic.Lib.Pointwise
public import Idealize.ShloMosaic.Lib.ReduceAll

@[expose] public section

noncomputable section

namespace Cert.PreTame

open Idealize.ShloMosaic Cert.Pre_tame

/-- An ordered comparison that holds. -/
theorem lt_of_cmp {x y : Ideal .f32} (h : FloatOps.cmpf .olt x y = 1#1) : (x : EReal) < y := by
  have h' : BitVec.ofBool (decide ((x : EReal) < y)) = 1#1 := h
  by_contra hn
  rw [decide_eq_false hn] at h'
  exact absurd h' (by decide)

theorem top_eq : Ideal.ofBits .f32 0x7F800000#32 = ⊤ := by
  simp [Ideal.ofBits, Ideal.ieee]

/-- A magnitude below `+∞` is a real number's. -/
theorem real_of_abs {x : EReal} (h : max x (-x) < ⊤) : Spec.IsReal x := by
  refine .ne (fun e => ?_) (fun e => ?_)
  · subst e; simp at h
  · subst e; simp at h

/-- Both of two checks that hold together hold. -/
theorem both (p q : BitVec 1) (h : IntOp.andi p q = 1#1) : p = 1#1 ∧ q = 1#1 := by
  revert p q; decide

instance : Subsingleton S_.Idx := ⟨fun _ _ => funext fun a => a.elim0⟩

variable {s : Shape} {axes : List (Fin s.rank)} (x : FVec Ideal s .f32)

theorem all_below (y : FVec Ideal s .f32) (hb) (hr) (hu) (j : S_.Idx)
    (h : Host.reduce (axes := axes) IntOp.andi (cmpf .olt y (broadcastInDim s ![] hb (constant S_ .f32 0x7F800000#32))) (constantI S_ 1 1#1) hr hu j = 1#1)
    (i : s.Idx) : (y i : EReal) < ⊤ :=
  top_eq ▸ lt_of_cmp (Host.reduce_andi_all _ _ hr hu j h i)

theorem all_real (hb) (hr) (hu) (j : S_.Idx)
    (h : Host.reduce (axes := axes) IntOp.andi (cmpf .olt (Host.absf x) (broadcastInDim s ![] hb (constant S_ .f32 0x7F800000#32))) (constantI S_ 1 1#1) hr hu j = 1#1)
    (i : s.Idx) : Spec.IsReal (x i) :=
  real_of_abs (all_below (Host.absf x) hb hr hu j h i)

theorem tame [Cert.Pre_tame.Facts] (x0 : FVec Ideal ⟨3, ![2, 4096, 1024]⟩ .f32) (x1 : FVec Ideal ⟨2, ![4384, 1024]⟩ .f32) (x2 : FVec Ideal ⟨2, ![2304, 4]⟩ .f32)
    (x3 : FVec Ideal ⟨1, ![2304]⟩ .f32) (x4 x5 x6 : FVec Ideal ⟨1, ![32]⟩ .f32) (x7 : FVec Ideal ⟨1, ![2048]⟩ .f32)
    (x8 : FVec Ideal ⟨2, ![1024, 2048]⟩ .f32) (h : Cert.Pre_tame.fn (F := Ideal) x0 x1 x2 x3 x4 x5 x6 x7 x8 = fun _ => 1#1) :
    Spec.Tame (Spec.ofArrays x0 x1 x2 x3 x4 x5 x6 x7 x8) := by
  have h := congrFun h (fun a => a.elim0)
  unfold Cert.Pre_tame.fn Cert.Pre_tame.fn_part1 at h
  obtain ⟨h, h5⟩ := both _ _ h
  obtain ⟨h, h4⟩ := both _ _ h
  obtain ⟨h, h3⟩ := both _ _ h
  obtain ⟨h, h2⟩ := both _ _ h
  obtain ⟨h0, h1⟩ := both _ _ h
  constructor
  · intro b l k
    show Spec.IsReal (if h : l < 4096 then _ else _)
    split
    · exact all_real x0 _ _ _ _ h0 _
    · exact .zero
  · exact fun e k => all_real x1 _ _ _ _ h1 _
  · exact fun ch k => all_real x2 _ _ _ _ h2 _
  · exact fun ch => all_real x3 _ _ _ _ h3 _
  · exact fun ch => all_real x4 _ _ _ _ h4 _
  · exact fun ch => (all_below x5 _ _ _ _ h5 _).ne

end Cert.PreTame

end
-- ==== Proof.Claims.lean ====
/- The claims: the frames, the named constant, and the two programs' equal results. -/
module

public import proofs.«01_k».proof.Defs
public import proofs.«01_k».proof.Proof.Gen.Kernel
public import proofs.«01_k».proof.Proof.Gen.Kernel.Frame
public import proofs.«01_k».proof.Proof.Gen.Pre_tame
public import proofs.«01_k».proof.Proof.Result
public import proofs.«01_k».proof.Proof.RefRun
public import proofs.«01_k».proof.Proof.Pre

@[expose] public section

noncomputable section

namespace Cert.Proof.Claims

open Idealize.ShloMosaic Idealize.SL.Sem

theorem frame_p : Cert.quiescent_Kernel := fun m ρ _ => Cert.Kernel.Gen.frame m ρ
theorem frame_pi : Cert.quiescent_KernelIdeal := fun m ρ _ => Cert.KernelIdeal.Gen.frame m ρ
theorem frame_pi_tame : Cert.quiescent_KernelIdeal_pre_tame := fun m ρ _ => Cert.KernelIdeal.Gen.frame m ρ
theorem frame_ri : Cert.quiescent_ReferenceIdeal := fun m ρ _ => Cert.RefRun.frame m ρ
theorem frame_ri_tame : Cert.quiescent_ReferenceIdeal_pre_tame := fun m ρ _ => Cert.RefRun.frame m ρ

/-- The one replaced constant is the value it is named for. -/
theorem preserves : Cert.preserves_Kernel_KernelIdeal :=
  IdealRules.named_const.statement Cert.KernelIdeal.κ "log2e" .f32 0x3FB8AA3B#32 (((Real.log 2)⁻¹ : ℝ) : EReal) rfl

/-- The two programs read the same arguments. -/
theorem args_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) :
    Cert.RefRun.args m' c = Cert.Chunk.args m c := by
  have e : Cert.RefRun.args m' c = Spec.ofArrays
      (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3))
      (m' ((c.tc : Thread Cert.ReferenceIdeal.nD Cert.ReferenceIdeal.τ).loc Cert.ReferenceIdeal.main_arg4))
      (m' ((c.tc : Thread Cert.ReferenceIdeal.nD Cert.ReferenceIdeal.τ).loc Cert.ReferenceIdeal.main_arg5))
      (m' ((c.tc : Thread Cert.ReferenceIdeal.nD Cert.ReferenceIdeal.τ).loc Cert.ReferenceIdeal.main_arg6))
      (m' ((c.tc : Thread Cert.ReferenceIdeal.nD Cert.ReferenceIdeal.τ).loc Cert.ReferenceIdeal.main_arg7))
      (m' ((c.tc : Thread Cert.ReferenceIdeal.nD Cert.ReferenceIdeal.τ).loc Cert.ReferenceIdeal.main_arg8)) := rfl
  rw [e, h0, h1, h2, h3, h4, h5, h6, h7, h8]
  rfl

/-- Both programs end with the specification's array. -/
theorem algebraic : Cert.algebraic_KernelIdeal_ReferenceIdeal_pre_tame := by
  intro m ρ m' ρ' hpre hagree
  have ht : ∀ c, Spec.Tame (Cert.Chunk.args m c) := fun c => Cert.PreTame.tame _ _ _ _ _ _ _ _ _ (hpre c)
  have he : ∀ c, Cert.RefRun.args m' c = Cert.Chunk.args m c := fun c => by
    obtain ⟨h0, h1, h2, h3, h4, h5, h6, h7, h8⟩ := hagree c
    exact args_eq m m' c h0 h1 h2 h3 h4 h5 h6 h7 h8
  refine ⟨fun c => Cert.RefRun.result (Cert.Chunk.args m c), ?_, ?_⟩
  · exact (θ_run Cert.KernelIdeal.defs _ _).mono (fun _ h c => ⟨(h c).1.trans (Cert.Chunk.G10_eq m c ht), (h c).2⟩)
      (Cert.KernelIdeal.Value.run (F := Ideal) m ρ)
  · exact (θ_run Cert.ReferenceIdeal.defs _ _).mono
      (fun _ h c => ⟨(h.1 c).trans (congrArg Cert.RefRun.result (he c)), h.2.1 c⟩)
      (θ_run_and (Cert.RefRun.run m' ρ' fun c => (he c).symm ▸ ht c) (Cert.RefRun.frame m' ρ'))

end Cert.Proof.Claims

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.Pre_tame
public import proofs.«01_k».proof.Proof.Claims
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Pre_tame.Gen.facts,
    Claims.frame_p, Claims.frame_pi, Claims.frame_pi_tame, Claims.frame_ri, Claims.frame_ri_tame, Claims.preserves, Claims.algebraic⟩

end Cert.Proof

end
